-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "inv_n" .f32 0x38D1B717#32 ((1 / 10000 : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x320000 : Shape := ⟨2, ![2, 320000]⟩
abbrev S320000 : Shape := ⟨1, ![320000]⟩
abbrev S128x512 : Shape := ⟨2, ![128, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x128 : S_.BroadcastsInDim S512x128 (![] : Fin 0 → Fin S512x128.rank)
  reducesTo_S512x128_S_d0_1 : S512x128.ReducesTo [0, 1] S_

variable [Facts]

def fn_part2 {F : FTy → Type} [FloatOps F] (main_arg11 : FVec F S512x128 .f32) (main_v32 : IVec S_ 1) (main_v33 : FVec F S512 .f32) : IVec S_ 1 :=
  let main_cst_12 : FVec F S_ .f32 := constant S_ .f32 0x7F800000#32
  let main_v34 : FVec F S512 .f32 := broadcastInDim S512 ![] bcast_S_S512 main_cst_12
  let main_v35 : IVec S512 1 := cmpf .olt main_v33 main_v34
  let main_c_13 : IVec S_ 1 := constantI S_ 1 1#1
  let main_v36 : IVec S_ 1 := (fun x v => Host.reduce IntOp.andi x v reducesTo_S512_S_d0 h_S_) main_v35 main_c_13
  let main_v37 : IVec S_ 1 := andi main_v32 main_v36
  let main_v38 : FVec F S512x128 .f32 := Host.absf main_arg11
  let main_cst_14 : FVec F S_ .f32 := constant S_ .f32 0x7F800000#32
  let main_v39 : FVec F S512x128 .f32 := broadcastInDim S512x128 ![] bcast_S_S512x128 main_cst_14
  let main_v40 : IVec S512x128 1 := cmpf .olt main_v38 main_v39
  let main_c_15 : IVec S_ 1 := constantI S_ 1 1#1
  let main_v41 : IVec S_ 1 := (fun x v => Host.reduce IntOp.andi x v reducesTo_S512x128_S_d0_1 h_S_) main_v40 main_c_15
  let main_v42 : IVec S_ 1 := andi main_v37 main_v41
  main_v42

def fn_part1 {F : FTy → Type} [FloatOps F] (main_arg6 : FVec F S512 .f32) (main_arg7 : FVec F S512x512 .f32) (main_arg8 : FVec F S512 .f32) (main_arg9 : FVec F S512 .f32) (main_arg11 : FVec F S512x128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_cst_6 : FVec F S_ .f32 := constant S_ .f32 0x7F800000#32
  let main_v19 : FVec F S512 .f32 := broadcastInDim S512 ![] bcast_S_S512 main_cst_6
  let main_v20 : IVec S512 1 := cmpf .olt main_arg6 main_v19
  let main_c_7 : IVec S_ 1 := constantI S_ 1 1#1
  let main_v21 : IVec S_ 1 := (fun x v => Host.reduce IntOp.andi x v reducesTo_S512_S_d0 h_S_) main_v20 main_c_7
  let main_v22 : IVec S_ 1 := andi main_v18 main_v21
  let main_v23 : FVec F S512x512 .f32 := Host.absf main_arg7
  let main_cst_8 : FVec F S_ .f32 := constant S_ .f32 0x7F800000#32
  let main_v24 : FVec F S512x512 .f32 := broadcastInDim S512x512 ![] bcast_S_S512x512 main_cst_8
  let main_v25 : IVec S512x512 1 := cmpf .olt main_v23 main_v24
  let main_c_9 : IVec S_ 1 := constantI S_ 1 1#1
  let main_v26 : IVec S_ 1 := (fun x v => Host.reduce IntOp.andi x v reducesTo_S512x512_S_d0_1 h_S_) main_v25 main_c_9
  let main_v27 : IVec S_ 1 := andi main_v22 main_v26
  let main_v28 : FVec F S512 .f32 := Host.absf main_arg8
  let main_cst_10 : FVec F S_ .f32 := constant S_ .f32 0x7F800000#32
  let main_v29 : FVec F S512 .f32 := broadcastInDim S512 ![] bcast_S_S512 main_cst_10
  let main_v30 : IVec S512 1 := cmpf .olt main_v28 main_v29
  let main_c_11 : IVec S_ 1 := constantI S_ 1 1#1
  let main_v31 : IVec S_ 1 := (fun x v => Host.reduce IntOp.andi x v reducesTo_S512_S_d0 h_S_) main_v30 main_c_11
  let main_v32 : IVec S_ 1 := andi main_v27 main_v31
  let main_v33 : FVec F S512 .f32 := Host.absf main_arg9
  fn_part2 (F := F) main_arg11 main_v32 main_v33

def fn {F : FTy → Type} [FloatOps F] (main_arg0 : FVec F S10000x128 .f32) (main_arg1 : IVec S2x320000 32) (main_arg2 : FVec F S320000 .f32) (main_arg3 : FVec F S128x512 .f32) (main_arg4 : FVec F S512 .f32) (main_arg5 : FVec F S512 .f32) (main_arg6 : FVec F S512 .f32) (main_arg7 : FVec F S512x512 .f32) (main_arg8 : FVec F S512 .f32) (main_arg9 : FVec F S512 .f32) (main_arg10 : FVec F S512 .f32) (main_arg11 : FVec F S512x128 .f32) (main_arg12 : FVec F S128 .f32) (main_arg13 : FVec F S128x10 .f32) (main_arg14 : FVec F S10 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x512 .f32 := Host.absf main_arg3
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg6 main_arg7 main_arg8 main_arg9 main_arg11 main_v13 main_v16
-- ==== Kernel.lean ====
abbrev S10000x128 : Shape := ⟨2, ![10000, 128]⟩
abbrev S2x320000 : Shape := ⟨2, ![2, 320000]⟩
abbrev S320000 : Shape := ⟨1, ![320000]⟩
abbrev S128x512 : Shape := ⟨2, ![128, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S128x10 : Shape := ⟨2, ![128, 10]⟩
abbrev S10 : Shape := ⟨1, ![10]⟩
abbrev S10000x10 : Shape := ⟨2, ![10000, 10]⟩
abbrev S10000x512 : Shape := ⟨2, ![10000, 512]⟩
abbrev S5 : Shape := ⟨1, ![5]⟩
abbrev S1 : Shape := ⟨1, ![1]⟩
abbrev S_ : Shape := ⟨0, ![]⟩
abbrev S2000x128 : Shape := ⟨2, ![2000, 128]⟩
abbrev S128x128 : Shape := ⟨2, ![128, 128]⟩
abbrev S1x128 : Shape := ⟨2, ![1, 128]⟩
abbrev S128x2000 : Shape := ⟨2, ![128, 2000]⟩
abbrev S128x1 : Shape := ⟨2, ![128, 1]⟩
abbrev S1x512 : Shape := ⟨2, ![1, 512]⟩
abbrev S2000x512 : Shape := ⟨2, ![2000, 512]⟩
abbrev S512x1 : Shape := ⟨2, ![512, 1]⟩
abbrev S128x118 : Shape := ⟨2, ![128, 118]⟩
abbrev S1x10 : Shape := ⟨2, ![1, 10]⟩
abbrev S2000x10 : Shape := ⟨2, ![2000, 10]⟩

abbrev nBuf : Space → Nat
  | .hbm => 16
  | .vmem => 13
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000, .f32⟩
  | .hbm, ⟨3, _⟩ => ⟨S128x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512x128, .f32⟩
  | .hbm, ⟨12, _⟩ => ⟨S128, .f32⟩
  | .hbm, ⟨13, _⟩ => ⟨S128x10, .f32⟩
  | .hbm, ⟨14, _⟩ => ⟨S10, .f32⟩
  | .hbm, ⟨15, _⟩ => ⟨S10000x10, .f32⟩
  | .local _ .vmem, ⟨0, _⟩ => ⟨S128x512, .f32⟩
  | .local _ .vmem, ⟨1, _⟩ => ⟨S512, .f32⟩
  | .local _ .vmem, ⟨2, _⟩ => ⟨S512, .f32⟩
  | .local _ .vmem, ⟨3, _⟩ => ⟨S512x512, .f32⟩
  | .local _ .vmem, ⟨4, _⟩ => ⟨S512, .f32⟩
  | .local _ .vmem, ⟨5, _⟩ => ⟨S512, .f32⟩
  | .local _ .vmem, ⟨6, _⟩ => ⟨S512x128, .f32⟩
  | .local _ .vmem, ⟨7, _⟩ => ⟨S128, .f32⟩
  | .local _ .vmem, ⟨8, _⟩ => ⟨S128x10, .f32⟩
  | .local _ .vmem, ⟨9, _⟩ => ⟨S10, .f32⟩
  | .local _ .vmem, ⟨10, _⟩ => ⟨S10000x512, .f32⟩
  | .local _ .vmem, ⟨11, _⟩ => ⟨S10000x128, .f32⟩
  | .local _ .vmem, ⟨12, _⟩ => ⟨S10000x10, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== KernelIdeal.lean ====
variable {F : FTy → Type} [FloatOps F] [Named F]
def κ : String → Option EReal := fun
  | "inv_n" => some ((1 / 10000 : ℝ) : EReal)
  | _ => none
-- ==== ReferenceIdeal.lean ====
abbrev S10000x128 : Shape := ⟨2, ![10000, 128]⟩
abbrev S2x320000 : Shape := ⟨2, ![2, 320000]⟩
abbrev S320000 : Shape := ⟨1, ![320000]⟩
abbrev S128x512 : Shape := ⟨2, ![128, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S128x10 : Shape := ⟨2, ![128, 10]⟩
abbrev S10 : Shape := ⟨1, ![10]⟩
abbrev S10000x512 : Shape := ⟨2, ![10000, 512]⟩
abbrev S1x512 : Shape := ⟨2, ![1, 512]⟩
abbrev S_ : Shape := ⟨0, ![]⟩
abbrev S1x128 : Shape := ⟨2, ![1, 128]⟩
abbrev S10000x10 : Shape := ⟨2, ![10000, 10]⟩
abbrev S1x10 : Shape := ⟨2, ![1, 10]⟩

abbrev nBuf : Space → Nat
  | .hbm => 125
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000, .f32⟩
  | .hbm, ⟨3, _⟩ => ⟨S128x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512x128, .f32⟩
  | .hbm, ⟨12, _⟩ => ⟨S128, .f32⟩
  | .hbm, ⟨13, _⟩ => ⟨S128x10, .f32⟩
  | .hbm, ⟨14, _⟩ => ⟨S10, .f32⟩
  | .hbm, ⟨15, _⟩ => ⟨S10000x512, .f32⟩
  | .hbm, ⟨16, _⟩ => ⟨S1x512, .f32⟩
  | .hbm, ⟨17, _⟩ => ⟨S10000x512, .f32⟩
  | .hbm, ⟨18, _⟩ => ⟨S10000x512, .f32⟩
  | .hbm, ⟨19, _⟩ => ⟨S_, .f32⟩
  | .hbm, ⟨20, _⟩ => ⟨S512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S_, .i32⟩
  | .hbm, ⟨26, _⟩ => ⟨S_, .f32⟩
  | .hbm, ⟨27, _⟩ => ⟨S512, .f32⟩
  | .hbm, ⟨28, _⟩ => ⟨S1x512, .f32⟩
  | .hbm, ⟨29, _⟩ => ⟨S_, .f32⟩
  | .hbm, ⟨30, _⟩ => ⟨S1x512, .f32⟩
  | .hbm, ⟨31, _⟩ => ⟨S1x512, .f32⟩
  | .hbm, ⟨32, _⟩ => ⟨S10000x512, .f32⟩
  | .hbm, ⟨33, _⟩ => ⟨S10000x512, .f32⟩
  | .hbm, ⟨34, _⟩ => ⟨S10000x512, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S512, .f32⟩
  | .hbm, ⟨40, _⟩ => ⟨S1x512, .f32⟩
  | .hbm, ⟨41, _⟩ => ⟨S1x512, .f32⟩
  | .hbm, ⟨42, _⟩ => ⟨S1x512, .f32⟩
  | .hbm, ⟨43, _⟩ => ⟨S_, .f32⟩
  | .hbm, ⟨44, _⟩ => ⟨S_, .i1⟩
  | .hbm, ⟨45, _⟩ => ⟨S_, .f32⟩
  | .hbm, ⟨46, _⟩ => ⟨S_, .f32⟩
  | .hbm, ⟨47, _⟩ => ⟨S1x512, .f32⟩
  | .hbm, ⟨48, _⟩ => ⟨S1x512, .f32⟩
  | .hbm, ⟨49, _⟩ => ⟨S10000x512, .f32⟩
  | .hbm, ⟨50, _⟩ => ⟨S10000x512, .f32⟩
  | .hbm, ⟨51, _⟩ => ⟨S_, .f32⟩
  | .hbm, ⟨52, _⟩ => ⟨S1x512, .f32⟩
  | .hbm, ⟨53, _⟩ => ⟨S1x512, .f32⟩
  | .hbm, ⟨54, _⟩ => ⟨S1x512, .f32⟩
  | .hbm, ⟨55, _⟩ => ⟨S10000x512, .f32⟩
  | .hbm, ⟨56, _⟩ => ⟨S10000x512, .f32⟩
  | .hbm, ⟨57, _⟩ => ⟨S1x512, .f32⟩
  | .hbm, ⟨58, _⟩ => ⟨S10000x512, .f32⟩
  | .hbm, ⟨59, _⟩ => ⟨S10000x512, .f32⟩
  | .hbm, ⟨60, _⟩ => ⟨S1x512, .f32⟩
  | .hbm, ⟨61, _⟩ => ⟨S10000x512, .f32⟩
  | .hbm, ⟨62, _⟩ => ⟨S10000x512, .f32⟩
  | .hbm, ⟨63, _⟩ => ⟨S_, .f32⟩
  | .hbm, ⟨64, _⟩ => ⟨S10000x512, .f32⟩
  | .hbm, ⟨65, _⟩ => ⟨S10000x512, .f32⟩
  | .hbm, ⟨66, _⟩ => ⟨S10000x512, .f32⟩
  | .hbm, ⟨67, _⟩ => ⟨S1x512, .f32⟩
  | .hbm, ⟨68, _⟩ => ⟨S10000x512, .f32⟩
  | .hbm, ⟨69, _⟩ => ⟨S10000x512, .f32⟩
  | .hbm, ⟨70, _⟩ => ⟨S_, .f32⟩
  | .hbm, ⟨71, _⟩ => ⟨S512, .f32⟩
  | .hbm, ⟨72, _⟩ => ⟨S1x512, .f32⟩
  | .hbm, ⟨73, _⟩ => ⟨S_, .f32⟩
  | .hbm, ⟨74, _⟩ => ⟨S1x512, .f32⟩
  | .hbm, ⟨75, _⟩ => ⟨S1x512, .f32⟩
  | .hbm, ⟨76, _⟩ => ⟨S_, .i32⟩
  | .hbm, ⟨77, _⟩ => ⟨S_, .f32⟩
  | .hbm, ⟨78, _⟩ => ⟨S512, .f32⟩
  | .hbm, ⟨79, _⟩ => ⟨S1x512, .f32⟩
  | .hbm, ⟨80, _⟩ => ⟨S_, .f32⟩
  | .hbm, ⟨81, _⟩ => ⟨S1x512, .f32⟩
  | .hbm, ⟨82, _⟩ => ⟨S1x512, .f32⟩
  | .hbm, ⟨83, _⟩ => ⟨S10000x512, .f32⟩
  | .hbm, ⟨84, _⟩ => ⟨S10000x512, .f32⟩
  | .hbm, ⟨85, _⟩ => ⟨S10000x512, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S512, .f32⟩
  | .hbm, ⟨91, _⟩ => ⟨S1x512, .f32⟩
  | .hbm, ⟨92, _⟩ => ⟨S1x512, .f32⟩
  | .hbm, ⟨93, _⟩ => ⟨S1x512, .f32⟩
  | .hbm, ⟨94, _⟩ => ⟨S_, .f32⟩
  | .hbm, ⟨95, _⟩ => ⟨S_, .i1⟩
  | .hbm, ⟨96, _⟩ => ⟨S_, .f32⟩
  | .hbm, ⟨97, _⟩ => ⟨S_, .f32⟩
  | .hbm, ⟨98, _⟩ => ⟨S1x512, .f32⟩
  | .hbm, ⟨99, _⟩ => ⟨S1x512, .f32⟩
  | .hbm, ⟨100, _⟩ => ⟨S10000x512, .f32⟩
  | .hbm, ⟨101, _⟩ => ⟨S10000x512, .f32⟩
  | .hbm, ⟨102, _⟩ => ⟨S_, .f32⟩
  | .hbm, ⟨103, _⟩ => ⟨S1x512, .f32⟩
  | .hbm, ⟨104, _⟩ => ⟨S1x512, .f32⟩
  | .hbm, ⟨105, _⟩ => ⟨S1x512, .f32⟩
  | .hbm, ⟨106, _⟩ => ⟨S10000x512, .f32⟩
  | .hbm, ⟨107, _⟩ => ⟨S10000x512, .f32⟩
  | .hbm, ⟨108, _⟩ => ⟨S1x512, .f32⟩
  | .hbm, ⟨109, _⟩ => ⟨S10000x512, .f32⟩
  | .hbm, ⟨110, _⟩ => ⟨S10000x512, .f32⟩
  | .hbm, ⟨111, _⟩ => ⟨S1x512, .f32⟩
  | .hbm, ⟨112, _⟩ => ⟨S10000x512, .f32⟩
  | .hbm, ⟨113, _⟩ => ⟨S10000x512, .f32⟩
  | .hbm, ⟨114, _⟩ => ⟨S10000x128, .f32⟩
  | .hbm, ⟨115, _⟩ => ⟨S1x128, .f32⟩
  | .hbm, ⟨116, _⟩ => ⟨S10000x128, .f32⟩
  | .hbm, ⟨117, _⟩ => ⟨S10000x128, .f32⟩
  | .hbm, ⟨118, _⟩ => ⟨S_, .f32⟩
  | .hbm, ⟨119, _⟩ => ⟨S10000x128, .f32⟩
  | .hbm, ⟨120, _⟩ => ⟨S10000x128, .f32⟩
  | .hbm, ⟨121, _⟩ => ⟨S10000x10, .f32⟩
  | .hbm, ⟨122, _⟩ => ⟨S1x10, .f32⟩
  | .hbm, ⟨123, _⟩ => ⟨S10000x10, .f32⟩
  | .hbm, ⟨124, _⟩ => ⟨S10000x10, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_cst_3 : Ref sig .tc := ⟨.hbm, 43, rfl⟩
abbrev main_call0_v13 : Ref sig .tc := ⟨.hbm, 44, rfl⟩
abbrev main_call0_cst_4 : Ref sig .tc := ⟨.hbm, 45, rfl⟩
abbrev main_call0_call0_v0 : Ref sig .tc := ⟨.hbm, 46, rfl⟩
abbrev main_call0_call0_v1 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_1 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_call1_cst : Ref sig .tc := ⟨.hbm, 63, rfl⟩
abbrev main_call1_v0 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_cst_2 : Ref sig .tc := ⟨.hbm, 70, rfl⟩
abbrev main_v27 : Ref sig .tc := ⟨.hbm, 71, rfl⟩
abbrev main_v28 : Ref sig .tc := ⟨.hbm, 72, rfl⟩
abbrev main_cst_3 : Ref sig .tc := ⟨.hbm, 73, rfl⟩
abbrev main_v29 : Ref sig .tc := ⟨.hbm, 74, rfl⟩
abbrev main_v30 : Ref sig .tc := ⟨.hbm, 75, rfl⟩
abbrev main_c_4 : Ref sig .tc := ⟨.hbm, 76, rfl⟩
abbrev main_call2_cst : Ref sig .tc := ⟨.hbm, 77, rfl⟩
abbrev main_call2_v0 : Ref sig .tc := ⟨.hbm, 78, rfl⟩
abbrev main_call2_v1 : Ref sig .tc := ⟨.hbm, 79, rfl⟩
abbrev main_call2_cst_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_v6 : Ref sig .tc := ⟨.hbm, 85, rfl⟩
abbrev main_call2_v7 : Ref sig .tc := ⟨.hbm, 86, rfl⟩
abbrev main_call2_cst_1 : Ref sig .tc := ⟨.hbm, 87, rfl⟩
abbrev main_call2_v8 : Ref sig .tc := ⟨.hbm, 88, rfl⟩
abbrev main_call2_cst_2 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_v12 : Ref sig .tc := ⟨.hbm, 93, rfl⟩
abbrev main_call2_cst_3 : Ref sig .tc := ⟨.hbm, 94, rfl⟩
abbrev main_call2_v13 : Ref sig .tc := ⟨.hbm, 95, rfl⟩
abbrev main_call2_cst_4 : Ref sig .tc := ⟨.hbm, 96, rfl⟩
abbrev main_call2_call0_v0 : Ref sig .tc := ⟨.hbm, 97, rfl⟩
abbrev main_call2_call0_v1 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_cst_5 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_call3_cst : Ref sig .tc := ⟨.hbm, 118, rfl⟩
abbrev main_call3_v0 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩

abbrev nD : Nat := 1
abbrev τ : Topo := Topo.v7x

variable {F : FTy → Type} [FloatOps F]
-- ==== Proof.Body.lean ====
/-
  The body of the kernel: one run of it over its five copies in, its arithmetic and its five copies out.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The proof's user algebra: the pipeline's beside the transfers' counters. -/
local notation "𝕄" => MT nD τ sig Unit (Elt F) ℕ (Pipeline.UD sig nD τ) ℕ

/-- The contents of the buffer a memref lies in, on core `c`. -/
abbrev RawBuf (c : Dev nD) {sp : Space} {S : Shape} {e : EltTy} (M : Memref sig .tc sp S e) : Type :=
  Buf (Elt F) (M.view.loc (c : Thread nD τ))
/-- A memref's elements held at contents `f`. -/
abbrev heldPt (c : Dev nD) {sp : Space} {S : Shape} {e : EltTy} (M : Memref sig .tc sp S e) (f : RawBuf (F := F) c M) : sProp 𝕄 :=
  M.view.loc (c : Thread nD τ) ↦[M.view.set]{fullShare} f
/-- A buffer held whole at contents `f`. -/
abbrev wholePt (c : Dev nD) {sp : Space} {S : Shape} {e : EltTy} (M : Memref sig .tc sp S e) (f : RawBuf (F := F) c M) : sProp 𝕄 :=
  M.view.loc (c : Thread nD τ) ↦{fullShare} f

/-- The node features, left in HBM. -/
abbrev xM : Memref sig .tc .hbm S10000x128 .f32 := Memref.whole main_arg0
/-- The result, left in HBM. -/
abbrev outM : Memref sig .tc .hbm S10000x10 .f32 := Memref.whole main_v0
/-- The hidden layer's scratch. -/
abbrev hM : Memref sig .tc .vmem S10000x512 .f32 := Memref.whole cc0_scratch0
/-- The features' scratch, which the five copies in fill. -/
abbrev xvM : Memref sig .tc .vmem S10000x128 .f32 := Memref.whole cc0_scratch1
/-- The result's scratch, which the five copies out read. -/
abbrev ovM : Memref sig .tc .vmem S10000x10 .f32 := Memref.whole cc0_scratch2

set_option sl_exec.dmaWindow true in
set_option maxHeartbeats 4000000 in
/-- The body's run: on the ten staged operands, the features and the result held whole, the three scratch buffers and the ten
    copy semaphores at zero, it ends with the operands as they were, the semaphores at zero and the result at the contents
    the run finds. -/
noncomputable def kernelRun (c : Dev nD) (a1 : Memref sig .tc .vmem S128x512 .f32) (ha1 : a1.IsWhole) (a2 : Memref sig .tc .vmem S512 .f32) (ha2 : a2.IsWhole) (a3 : Memref sig .tc .vmem S512 .f32) (ha3 : a3.IsWhole) (a4 : Memref sig .tc .vmem S512x512 .f32) (ha4 : a4.IsWhole) (a5 : Memref sig .tc .vmem S512 .f32) (ha5 : a5.IsWhole) (a6 : Memref sig .tc .vmem S512 .f32) (ha6 : a6.IsWhole) (a7 : Memref sig .tc .vmem S512x128 .f32) (ha7 : a7.IsWhole) (a8 : Memref sig .tc .vmem S128 .f32) (ha8 : a8.IsWhole) (a9 : Memref sig .tc .vmem S128x10 .f32) (ha9 : a9.IsWhole) (a10 : Memref sig .tc .vmem S10 .f32) (ha10 : a10.IsWhole)
    (fx : RawBuf (F := F) c xM) (f1 : RawBuf (F := F) c a1) (f2 : RawBuf (F := F) c a2) (f3 : RawBuf (F := F) c a3) (f4 : RawBuf (F := F) c a4) (f5 : RawBuf (F := F) c a5) (f6 : RawBuf (F := F) c a6) (f7 : RawBuf (F := F) c a7) (f8 : RawBuf (F := F) c a8) (f9 : RawBuf (F := F) c a9) (f10 : RawBuf (F := F) c a10)
    (fo : RawBuf (F := F) c outM) (fh : RawBuf (F := F) c hM) (fv : RawBuf (F := F) c xvM) (fw : RawBuf (F := F) c ovM) :
    { G : RawBuf (F := F) c outM //
      ∀ (W : Waits sig Unit) (K : PUnit → sProp 𝕄),
        iprop((heldPt c a1 f1 ∗ heldPt c a2 f2 ∗ heldPt c a3 f3 ∗ heldPt c a4 f4 ∗ heldPt c a5 f5 ∗ heldPt c a6 f6 ∗ heldPt c a7 f7 ∗ heldPt c a8 f8 ∗ heldPt c a9 f9 ∗ heldPt c a10 f10)
            ∗ wholePt c xM fx ∗ wholePt c outM fo ∗ wholePt c hM fh ∗ wholePt c xvM fv ∗ wholePt c ovM fw
            ∗ (semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0)
            ∗ owes (c : Thread nD τ) 0 W
            ∗ (iprop((heldPt c a1 f1 ∗ heldPt c a2 f2 ∗ heldPt c a3 f3 ∗ heldPt c a4 f4 ∗ heldPt c a5 f5 ∗ heldPt c a6 f6 ∗ heldPt c a7 f7 ∗ heldPt c a8 f8 ∗ heldPt c a9 f9 ∗ heldPt c a10 f10)
                ∗ wholePt c xM fx ∗ wholePt c outM G ∗ (∃ f, wholePt c hM f) ∗ (∃ f, wholePt c xvM f) ∗ (∃ f, wholePt c ovM f)
                ∗ (semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0)
                ∗ (∃ W', owes (c : Thread nD τ) 0 W')) -∗ K ⟨⟩))
          ⊢ wp frame (wpE (defs₀ (F := F)) Variants.none c none) Set.univ
              (cc0__fused_mlp_kernel xM (Memref.isWhole_whole _) a1 ha1 a2 ha2 a3 ha3 a4 ha4 a5 ha5 a6 ha6 a7 ha7 a8 ha8 a9 ha9 a10 ha10 outM (Memref.isWhole_whole _) hM (Memref.isWhole_whole _) xvM (Memref.isWhole_whole _) ovM (Memref.isWhole_whole _) cc0_scratch3 cc0_scratch4) K } := by
  refine ⟨?_, fun W K => ?run⟩
  case run =>
    simp only [cc0__fused_mlp_kernel_eq_skeleton]; unfold cc0__fused_mlp_kernel_skel
    iintro ⟨⟨H1, H2, H3, H4, H5, H6, H7, H8, H9, H10⟩, Hx, Ho, Hh, Hv, Hw, ⟨Hq10, Hq11, Hq12, Hq13, Hq14, Hq15, Hq16, Hq17, Hq18, Hq19⟩, HW, Hk⟩
    sl_exec_parts
    sl_step
    iapply Hk
    isplitl [H1 H2 H3 H4 H5 H6 H7 H8 H9 H10]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    isplitl [Hx]; · iexact Hx
    isplitl [Ho]; · iexact Ho
    isplitl [Hh]; · iexists _; iexact Hh
    isplitl [Hv]; · iexists _; iexact Hv
    isplitl [Hw]; · iexists _; iexact Hw
    isplitl [Hq10 Hq11 Hq12 Hq13 Hq14 Hq15 Hq16 Hq17 Hq18 Hq19]
    · isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      iexact Hq19
    iexists _; iexact HW

end Cert.KernelIdeal.Hand

end
-- ==== Proof.Blocks.lean ====
/-
  What the kernel computes, block by block, over any float values: the features come in five blocks of 2000 rows, the first
  batch norm is folded into the first weights, the second into the third.
-/
module

public import proofs.«01_k».proof.Proof.Gen.KernelIdeal
public import Idealize.ShloMosaic.Lib.ValueIdxCore

@[expose] public section

noncomputable section

namespace Cert.KernelIdeal.Hand

open Cert.KernelIdeal Cert.KernelIdeal.Gen
open Idealize.ShloMosaic Idealize.ShloMosaic.ValueIdx

variable {F : FTy → Type} [FloatOps F] [Named F]

/-- Block `k` of the features: rows 2000k to 2000k + 1999. -/
def rowsB (x : Vec F S10000x128 .f32) (k : Fin 5) : Vec F S2000x128 .f32 := fun y =>
  x (ix2 (n0 := 10000) (n1 := 128) ⟨2000 * k.val + (y 0).val, by have h : (y 0).val < 2000 := (y 0).isLt; have := k.isLt; omega⟩ (y 1))
/-- The array of 10000 rows whose five blocks are `R`. -/
def stackB (R : Fin 5 → Vec F S2000x10 .f32) : Vec F S10000x10 .f32 := fun y =>
  R ⟨(y 0).val / 2000, by have h : (y 0).val < 10000 := (y 0).isLt; omega⟩
    (ix2 (n0 := 2000) (n1 := 10) ⟨(y 0).val % 2000, Nat.mod_lt _ (by omega)⟩ (y 1))

/-- Zero. -/
abbrev zeroF : F .f32 := Scalar.ofBits .f32 0x00000000#32
/-- The reciprocal of the number of rows, the kernel's named constant. -/
abbrev invN : F .f32 := Named.named κ "inv_n" 0x38D1B717#32
/-- The batch norm's epsilon. -/
abbrev epsF : F .f32 := Scalar.ofBits .f32 0x3727C5AC#32

/-- One block's Gram matrix Xᵀ X. -/
def gramB (X : Vec F S2000x128 .f32) : FVec F S128x128 .f32 :=
  matmul dot_S128x2000_S2000x128_S128x128_1_0_0_1_n_n none (transpose S128x2000 [1, 0] X transposes_S2000x128_p1_0_S128x2000) X
    (constant S128x128 .f32 0x00000000#32)
/-- One block's column sums. -/
def colsB (X : Vec F S2000x128 .f32) : FVec F S1x128 .f32 :=
  shapeCast S1x128 (multiReduction .add [0] S128 X 0x00000000#32 reduces_S2000x128_S128 (.inl rfl) rfl) shapeCasts_S128_S1x128
/-- The Gram matrix of all rows. -/
def gram (X : Fin 5 → Vec F S2000x128 .f32) : FVec F S128x128 .f32 :=
  addf (addf (addf (addf (addf (broadcast S128x128 zeroF) (gramB (X 0))) (gramB (X 1))) (gramB (X 2))) (gramB (X 3))) (gramB (X 4))
/-- The column sums of all rows. -/
def cols (X : Fin 5 → Vec F S2000x128 .f32) : FVec F S1x128 .f32 :=
  addf (addf (addf (addf (addf (broadcast S1x128 zeroF) (colsB (X 0))) (colsB (X 1))) (colsB (X 2))) (colsB (X 3))) (colsB (X 4))
/-- The mean of the first layer's columns, from the features' column sums. -/
def mean1 (C : FVec F S1x128 .f32) (w : Vec F S128x512 .f32) : FVec F S1x512 .f32 :=
  mulf (shapeCast S1x512 (multiReduction .add [0] S512
      (mulf (broadcastTo S128x512 (shapeCast S128x1 C shapeCasts_S1x128_S128x1) broadcasts_S128x1_S128x512) w)
      0x00000000#32 reduces_S128x512_S512 (.inl rfl) rfl) shapeCasts_S512_S1x512) (broadcast S1x512 invN)
/-- The mean of the squares of the first layer's columns, from the Gram matrix. -/
def msq1 (S : FVec F S128x128 .f32) (w : Vec F S128x512 .f32) : FVec F S1x512 .f32 :=
  mulf (shapeCast S1x512 (multiReduction .add [0] S512
      (mulf w (matmul dot_S128x128_S128x512_S128x512_1_0_0_1_n_n none S w (constant S128x512 .f32 0x00000000#32)))
      0x00000000#32 reduces_S128x512_S512 (.inl rfl) rfl) shapeCasts_S512_S1x512) (broadcast S1x512 invN)
/-- A batch norm's scale, from the mean, the mean of the squares and gamma. -/
def scaleOf (mu ms : FVec F S1x512 .f32) (g : Vec F S512 .f32) : FVec F S1x512 .f32 :=
  mulf (shapeCast S1x512 g shapeCasts_S512_S1x512) (rsqrt (addf (subf ms (mulf mu mu)) (broadcast S1x512 epsF)))
/-- A batch norm's shift, from the mean, the scale and beta. -/
def shiftOf (mu sc : FVec F S1x512 .f32) (be : Vec F S512 .f32) : FVec F S1x512 .f32 :=
  subf (shapeCast S1x512 be shapeCasts_S512_S1x512) (mulf mu sc)
/-- One block of the second layer, before its batch norm. -/
def hidB (w1 : Vec F S128x512 .f32) (sc sh : FVec F S1x512 .f32) (w2 : Vec F S512x512 .f32) (X : Vec F S2000x128 .f32) : FVec F S2000x512 .f32 :=
  matmul dot_S2000x512_S512x512_S2000x512_1_0_0_1_n_n none
    (maximumf (addf (matmul dot_S2000x128_S128x512_S2000x512_1_0_0_1_n_n none X
        (mulf w1 (broadcastTo S128x512 sc broadcasts_S1x512_S128x512)) (constant S2000x512 .f32 0x00000000#32))
      (broadcastTo S2000x512 sh broadcasts_S1x512_S2000x512)) (broadcast S2000x512 zeroF))
    w2 (constant S2000x512 .f32 0x00000000#32)
/-- The column sums of one block of the second layer. -/
def colsH (H : FVec F S2000x512 .f32) : FVec F S1x512 .f32 :=
  shapeCast S1x512 (multiReduction .add [0] S512 H 0x00000000#32 reduces_S2000x512_S512 (.inl rfl) rfl) shapeCasts_S512_S1x512
/-- The mean over all rows of five blocks. -/
def mean2 (H : Fin 5 → FVec F S2000x512 .f32) : FVec F S1x512 .f32 :=
  mulf (addf (addf (addf (addf (addf (broadcast S1x512 zeroF) (colsH (H 0))) (colsH (H 1))) (colsH (H 2))) (colsH (H 3))) (colsH (H 4)))
    (broadcast S1x512 invN)
/-- The third layer's weights with the second batch norm's scale folded in. -/
def foldW (sc : FVec F S1x512 .f32) (wf1 : Vec F S512x128 .f32) : FVec F S512x128 .f32 :=
  mulf wf1 (broadcastTo S512x128 (shapeCast S512x1 sc shapeCasts_S1x512_S512x1) broadcasts_S512x1_S512x128)
/-- The third layer's bias with the second batch norm's shift folded in. -/
def foldB (sh : FVec F S1x512 .f32) (wf1 : Vec F S512x128 .f32) (bf1 : Vec F S128 .f32) : FVec F S1x128 .f32 :=
  addf (shapeCast S1x128 (multiReduction .add [0] S128
      (mulf (broadcastTo S512x128 (shapeCast S512x1 sh shapeCasts_S1x512_S512x1) broadcasts_S512x1_S512x128) wf1)
      0x00000000#32 reduces_S512x128_S128 (.inl rfl) rfl) shapeCasts_S128_S1x128) (shapeCast S1x128 bf1 shapeCasts_S128_S1x128)
/-- The last weights, padded with zero columns to a width of 128. -/
def padW (wf2 : Vec F S128x10 .f32) : FVec F S128x128 .f32 :=
  concatenate S128x128 1 [⟨S128x10, wf2⟩, ⟨S128x118, broadcast S128x118 zeroF⟩] concatenates_S128x10_S128x118_S128x128_d1
/-- One block of the result. -/
def outB (w3 : FVec F S512x128 .f32) (b3 : FVec F S1x128 .f32) (w4 : FVec F S128x128 .f32) (bf2 : Vec F S10 .f32) (H : FVec F S2000x512 .f32) :
    FVec F S2000x10 .f32 :=
  addf (extractStridedSlice S2000x10 ![0, 0]
      (matmul dot_S2000x128_S128x128_S2000x128_1_0_0_1_n_n none
        (maximumf (addf (matmul dot_S2000x512_S512x128_S2000x128_1_0_0_1_n_n none H w3 (constant S2000x128 .f32 0x00000000#32))
          (broadcastTo S2000x128 b3 broadcasts_S1x128_S2000x128)) (broadcast S2000x128 zeroF))
        w4 (constant S2000x128 .f32 0x00000000#32)) slices_S2000x128_o0_0_S2000x10)
    (broadcastTo S2000x10 (shapeCast S1x10 bf2 shapeCasts_S10_S1x10) broadcasts_S1x10_S2000x10)

/-- The first batch norm's scale. -/
def sc1 (X : Fin 5 → Vec F S2000x128 .f32) (w1 : Vec F S128x512 .f32) (g1 : Vec F S512 .f32) : FVec F S1x512 .f32 :=
  scaleOf (mean1 (cols X) w1) (msq1 (gram X) w1) g1
/-- The first batch norm's shift. -/
def sh1 (X : Fin 5 → Vec F S2000x128 .f32) (w1 : Vec F S128x512 .f32) (g1 be1 : Vec F S512 .f32) : FVec F S1x512 .f32 :=
  shiftOf (mean1 (cols X) w1) (sc1 X w1 g1) be1
/-- The second layer's blocks. -/
def hid (X : Fin 5 → Vec F S2000x128 .f32) (w1 : Vec F S128x512 .f32) (g1 be1 : Vec F S512 .f32) (w2 : Vec F S512x512 .f32) (k : Fin 5) :
    FVec F S2000x512 .f32 :=
  hidB w1 (sc1 X w1 g1) (sh1 X w1 g1 be1) w2 (X k)
/-- The second batch norm's scale, from the second layer's blocks. -/
def sc2 (H : Fin 5 → FVec F S2000x512 .f32) (g2 : Vec F S512 .f32) : FVec F S1x512 .f32 :=
  scaleOf (mean2 H) (mean2 fun k => mulf (H k) (H k)) g2
/-- The second batch norm's shift. -/
def sh2 (H : Fin 5 → FVec F S2000x512 .f32) (g2 be2 : Vec F S512 .f32) : FVec F S1x512 .f32 :=
  shiftOf (mean2 H) (sc2 H g2) be2
/-- The result's blocks, from the second layer's. -/
def resOf (H : Fin 5 → FVec F S2000x512 .f32) (g2 be2 : Vec F S512 .f32) (wf1 : Vec F S512x128 .f32) (bf1 : Vec F S128 .f32)
    (wf2 : Vec F S128x10 .f32) (bf2 : Vec F S10 .f32) (k : Fin 5) : FVec F S2000x10 .f32 :=
  outB (foldW (sc2 H g2) wf1) (foldB (sh2 H g2 be2) wf1 bf1) (padW wf2) bf2 (H k)
/-- The result's blocks. -/
def res (X : Fin 5 → Vec F S2000x128 .f32) (w1 : Vec F S128x512 .f32) (g1 be1 : Vec F S512 .f32) (w2 : Vec F S512x512 .f32)
    (g2 be2 : Vec F S512 .f32) (wf1 : Vec F S512x128 .f32) (bf1 : Vec F S128 .f32) (wf2 : Vec F S128x10 .f32) (bf2 : Vec F S10 .f32)
    (k : Fin 5) : FVec F S2000x10 .f32 :=
  resOf (hid X w1 g1 be1 w2) g2 be2 wf1 bf1 wf2 bf2 k

end Cert.KernelIdeal.Hand

end
-- ==== Proof.RunValue.lean ====
/-
  What the run of the body leaves in the result: the five blocks of `Blocks.lean`, whatever the scratch buffers held before.
-/
module

public import proofs.«01_k».proof.Proof.Body
public import proofs.«01_k».proof.Proof.Blocks
public import Idealize.ShloMosaic.Lib.Pipeline.ValueKit.Basic

@[expose] public section

set_option maxRecDepth 16384

noncomputable section

namespace Cert.KernelIdeal.Hand

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (c : Dev nD) (a1 : Memref sig .tc .vmem S128x512 .f32) (a2 : Memref sig .tc .vmem S512 .f32) (a3 : Memref sig .tc .vmem S512 .f32) (a4 : Memref sig .tc .vmem S512x512 .f32) (a5 : Memref sig .tc .vmem S512 .f32) (a6 : Memref sig .tc .vmem S512 .f32) (a7 : Memref sig .tc .vmem S512x128 .f32) (a8 : Memref sig .tc .vmem S128 .f32) (a9 : Memref sig .tc .vmem S128x10 .f32) (a10 : Memref sig .tc .vmem S10 .f32)
  (fx : RawBuf (F := F) c xM) (f1 : RawBuf (F := F) c a1) (f2 : RawBuf (F := F) c a2) (f3 : RawBuf (F := F) c a3) (f4 : RawBuf (F := F) c a4) (f5 : RawBuf (F := F) c a5) (f6 : RawBuf (F := F) c a6) (f7 : RawBuf (F := F) c a7) (f8 : RawBuf (F := F) c a8) (f9 : RawBuf (F := F) c a9) (f10 : RawBuf (F := F) c a10)

/-- A read of rows that the last store doesn't touch is a read of what the earlier stores left. -/
theorem rows_miss {sp : Space} {d : Fin 2 → ℕ} (v : View sig .tc sp ⟨2, d⟩ .f32) (o o' n n' : ℕ) (sz sz' : Fin 2 → ℕ)
    (inb : ∀ a, (![o, n] : Fin 2 → ℕ) a + sz a ≤ d a) (inb' : ∀ a, (![o', n'] : Fin 2 → ℕ) a + sz' a ≤ d a)
    (w : (Rect.unit (s := ⟨2, d⟩) ![o, n] sz inb).shape.Idx → Elt F .f32)
    (L : List (View.Piece (Elt F) ⟨2, d⟩ .f32)) (h : o' + sz' 0 ≤ o) :
    v.readCov (⟨Rect.unit ![o, n] sz inb, w⟩ :: L) (Rect.unit ![o', n'] sz' inb').toLoadRect
      = v.readCov L (Rect.unit ![o', n'] sz' inb').toLoadRect :=
  View.readCov_cons_of_disjoint _ _ _ _ (Rect.unit_disjoint (s := ⟨2, d⟩) (inb := inb) (inb' := inb') (0 : Fin 2) (Or.inr h))

/-- The features, block by block, as the buffer in HBM holds them. -/
def xBlk (fx : RawBuf (F := F) c xM) : Fin 5 → Vec F S2000x128 .f32 := rowsB (xM.view.read (Elt F) fx)

/-- A copy out of rows 2000k onwards of the features takes block `k`. -/
theorem copy_in (k : Fin 5) (off : Fin 2 → ℕ) (h : off = ![2000 * k.val, 0]) (inb) (h1) :
    ReadAs.same.apply (View.read (Elt F) (xM.slice (Rect.unit off S2000x128.size inb) h1).view fx) = xBlk c fx k := by
  subst h
  funext y
  unfold xBlk rowsB
  refine congrArg (xM.view.read (Elt F) fx) (funext fun a => ?_)
  match a with
  | ⟨0, _⟩ => exact Fin.ext (by show 2000 * k.val + 1 * (y 0).val = 2000 * k.val + (y 0).val; omega)
  | ⟨1, _⟩ => exact Fin.ext (by show 0 + 1 * (y 1).val = (y 1).val; omega)

/-- The body's read of block 0 of the features. -/
theorem x_read0 : kernelRun.sl.v27 c fx = xBlk c fx 0 := by
  unfold kernelRun.sl.v27
  refine (rows_miss (d := ![10000, 128]) _ 8000 0 0 0 S2000x128.size S2000x128.size _ _ _ _ (by decide)).trans ?_
  refine (rows_miss (d := ![10000, 128]) _ 6000 0 0 0 S2000x128.size S2000x128.size _ _ _ _ (by decide)).trans ?_
  refine (rows_miss (d := ![10000, 128]) _ 4000 0 0 0 S2000x128.size S2000x128.size _ _ _ _ (by decide)).trans ?_
  refine (rows_miss (d := ![10000, 128]) _ 2000 0 0 0 S2000x128.size S2000x128.size _ _ _ _ (by decide)).trans ?_
  exact (View.readCov_cons_toLoadRect _ _ _ _).trans (copy_in c fx 0 _ rfl _ _)

/-- The body's read of block 1 of the features. -/
theorem x_read1 : kernelRun.sl.v38 c fx = xBlk c fx 1 := by
  unfold kernelRun.sl.v38
  refine (rows_miss (d := ![10000, 128]) _ 8000 2000 0 0 S2000x128.size S2000x128.size _ _ _ _ (by decide)).trans ?_
  refine (rows_miss (d := ![10000, 128]) _ 6000 2000 0 0 S2000x128.size S2000x128.size _ _ _ _ (by decide)).trans ?_
  refine (rows_miss (d := ![10000, 128]) _ 4000 2000 0 0 S2000x128.size S2000x128.size _ _ _ _ (by decide)).trans ?_
  exact (View.readCov_cons_toLoadRect _ _ _ _).trans (copy_in c fx 1 _ rfl _ _)

/-- The body's read of block 2 of the features. -/
theorem x_read2 : kernelRun.sl.v49 c fx = xBlk c fx 2 := by
  unfold kernelRun.sl.v49
  refine (rows_miss (d := ![10000, 128]) _ 8000 4000 0 0 S2000x128.size S2000x128.size _ _ _ _ (by decide)).trans ?_
  refine (rows_miss (d := ![10000, 128]) _ 6000 4000 0 0 S2000x128.size S2000x128.size _ _ _ _ (by decide)).trans ?_
  exact (View.readCov_cons_toLoadRect _ _ _ _).trans (copy_in c fx 2 _ rfl _ _)

/-- The body's read of block 3 of the features. -/
theorem x_read3 : kernelRun.sl.v60 c fx = xBlk c fx 3 := by
  unfold kernelRun.sl.v60
  refine (rows_miss (d := ![10000, 128]) _ 8000 6000 0 0 S2000x128.size S2000x128.size _ _ _ _ (by decide)).trans ?_
  exact (View.readCov_cons_toLoadRect _ _ _ _).trans (copy_in c fx 3 _ rfl _ _)

/-- The body's read of block 4 of the features. -/
theorem x_read4 : kernelRun.sl.v71 c fx = xBlk c fx 4 := by
  unfold kernelRun.sl.v71
  exact (View.readCov_cons_toLoadRect _ _ _ _).trans (copy_in c fx 4 _ rfl _ _)

theorem zero1 : (![0] : Fin 1 → ℕ) = fun _ => 0 := funext fun a => by match a with | ⟨0, _⟩ => rfl
theorem zero2 : (![0, 0] : Fin 2 → ℕ) = fun _ => 0 := funext fun a => by match a with | ⟨0, _⟩ => rfl | ⟨1, _⟩ => rfl

/-- The body's read of the whole of operand 1. -/
theorem op_read1 : kernelRun.sl.r c a1 f1 = a1.view.read (Elt F) f1 := by
  unfold kernelRun.sl.r; exact View.ld_unit_zero zero2 _ _

/-- The body's read of the whole of operand 4. -/
theorem op_read4 : kernelRun.sl.r_3 c a4 f4 = a4.view.read (Elt F) f4 := by
  unfold kernelRun.sl.r_3; exact View.ld_unit_zero zero2 _ _

/-- The first layer's mean, as the body computes it. -/
theorem mean_read : kernelRun.sl.r_1 c a1 fx f1 = mean1 (cols (xBlk c fx)) (a1.view.read (Elt F) f1) := by
  unfold kernelRun.sl.r_1
  have h : kernelRun.sl.v55 c fx = addf (addf (addf (broadcast S1x128 zeroF) (colsB (xBlk c fx 0))) (colsB (xBlk c fx 1))) (colsB (xBlk c fx 2)) := by
    rw [← x_read0, ← x_read1, ← x_read2]; rfl
  rw [h, x_read3, x_read4, op_read1]; rfl

/-- The mean of the squares of the first layer. -/
theorem msq_read : kernelRun.sl.r_2 c a1 fx f1 = msq1 (gram (xBlk c fx)) (a1.view.read (Elt F) f1) := by
  unfold kernelRun.sl.r_2
  have h : kernelRun.sl.v52 c fx = addf (addf (addf (broadcast S128x128 zeroF) (gramB (xBlk c fx 0))) (gramB (xBlk c fx 1))) (gramB (xBlk c fx 2)) := by
    rw [← x_read0, ← x_read1, ← x_read2]; rfl
  rw [h, x_read3, x_read4, op_read1]; rfl

/-- The first batch norm's scale. -/
theorem scale_read : kernelRun.sl.v98 c a1 a2 fx f1 f2 = sc1 (xBlk c fx) (a1.view.read (Elt F) f1) (a2.view.read (Elt F) f2) := by
  unfold sc1
  rw [← mean_read, ← msq_read, ← View.ld_unit_zero zero1 (by decide) (a2.view.read (Elt F) f2)]
  rfl

/-- The first batch norm's shift. -/
theorem shift_read : kernelRun.sl.v102 c a1 a2 a3 fx f1 f2 f3 = sh1 (xBlk c fx) (a1.view.read (Elt F) f1) (a2.view.read (Elt F) f2) (a3.view.read (Elt F) f3) := by
  unfold sh1
  rw [← scale_read, ← mean_read, ← View.ld_unit_zero zero1 (by decide) (a3.view.read (Elt F) f3)]
  rfl

/-- Block 0 of the second layer, as the body computes it. -/
theorem hid_read0 : kernelRun.sl.v114 c a1 a2 a3 a4 fx f1 f2 f3 f4 = (hid (xBlk c fx) (a1.view.read (Elt F) f1) (a2.view.read (Elt F) f2) (a3.view.read (Elt F) f3) (a4.view.read (Elt F) f4)) 0 := by
  unfold hid
  rw [← scale_read, ← shift_read, ← op_read1, ← op_read4, ← x_read0]
  rfl

/-- Block 1 of the second layer, as the body computes it. -/
theorem hid_read1 : kernelRun.sl.v131 c a1 a2 a3 a4 fx f1 f2 f3 f4 = (hid (xBlk c fx) (a1.view.read (Elt F) f1) (a2.view.read (Elt F) f2) (a3.view.read (Elt F) f3) (a4.view.read (Elt F) f4)) 1 := by
  unfold hid
  rw [← scale_read, ← shift_read, ← op_read1, ← op_read4, ← x_read1]
  rfl

/-- Block 2 of the second layer, as the body computes it. -/
theorem hid_read2 : kernelRun.sl.v148 c a1 a2 a3 a4 fx f1 f2 f3 f4 = (hid (xBlk c fx) (a1.view.read (Elt F) f1) (a2.view.read (Elt F) f2) (a3.view.read (Elt F) f3) (a4.view.read (Elt F) f4)) 2 := by
  unfold hid
  rw [← scale_read, ← shift_read, ← op_read1, ← op_read4, ← x_read2]
  rfl

/-- Block 3 of the second layer, as the body computes it. -/
theorem hid_read3 : kernelRun.sl.v165 c a1 a2 a3 a4 fx f1 f2 f3 f4 = (hid (xBlk c fx) (a1.view.read (Elt F) f1) (a2.view.read (Elt F) f2) (a3.view.read (Elt F) f3) (a4.view.read (Elt F) f4)) 3 := by
  unfold hid
  rw [← scale_read, ← shift_read, ← op_read1, ← op_read4, ← x_read3]
  rfl

/-- Block 4 of the second layer, as the body computes it. -/
theorem hid_read4 : k0_pay24 (kernelRun.sl.v102 c a1 a2 a3 fx f1 f2 f3) (kernelRun.sl.v104 c a1 a2 fx f1 f2) (kernelRun.sl.r_3 c a4 f4) (kernelRun.sl.v71 c fx) = (hid (xBlk c fx) (a1.view.read (Elt F) f1) (a2.view.read (Elt F) f2) (a3.view.read (Elt F) f3) (a4.view.read (Elt F) f4)) 4 := by
  unfold hid
  rw [← scale_read, ← shift_read, ← op_read1, ← op_read4, ← x_read4]
  rfl

/-- Block 0 of the second layer, as the body reads it back from its scratch. -/
theorem hid_back0 : kernelRun.sl.v227 c a1 a2 a3 a4 fx f1 f2 f3 f4 = (hid (xBlk c fx) (a1.view.read (Elt F) f1) (a2.view.read (Elt F) f2) (a3.view.read (Elt F) f3) (a4.view.read (Elt F) f4)) 0 := by
  unfold kernelRun.sl.v227 kernelRun.sl.Hh_5 kernelRun.sl.Hh_3 kernelRun.sl.Hh_1
  refine (rows_miss (d := ![10000, 512]) _ 8000 0 0 0 S2000x512.size S2000x512.size _ _ _ _ (by decide)).trans ?_
  refine (rows_miss (d := ![10000, 512]) _ 6000 0 0 0 S2000x512.size S2000x512.size _ _ _ _ (by decide)).trans ?_
  refine (rows_miss (d := ![10000, 512]) _ 4000 0 0 0 S2000x512.size S2000x512.size _ _ _ _ (by decide)).trans ?_
  refine (rows_miss (d := ![10000, 512]) _ 2000 0 0 0 S2000x512.size S2000x512.size _ _ _ _ (by decide)).trans ?_
  exact (View.readCov_cons_toLoadRect _ _ _ _).trans ((shapeCast_self _ _).trans (hid_read0 c a1 a2 a3 a4 fx f1 f2 f3 f4))

/-- Block 1 of the second layer, as the body reads it back from its scratch. -/
theorem hid_back1 : kernelRun.sl.v244 c a1 a2 a3 a4 fx f1 f2 f3 f4 = (hid (xBlk c fx) (a1.view.read (Elt F) f1) (a2.view.read (Elt F) f2) (a3.view.read (Elt F) f3) (a4.view.read (Elt F) f4)) 1 := by
  unfold kernelRun.sl.v244 kernelRun.sl.Hh_5 kernelRun.sl.Hh_3 kernelRun.sl.Hh_1
  refine (rows_miss (d := ![10000, 512]) _ 8000 2000 0 0 S2000x512.size S2000x512.size _ _ _ _ (by decide)).trans ?_
  refine (rows_miss (d := ![10000, 512]) _ 6000 2000 0 0 S2000x512.size S2000x512.size _ _ _ _ (by decide)).trans ?_
  refine (rows_miss (d := ![10000, 512]) _ 4000 2000 0 0 S2000x512.size S2000x512.size _ _ _ _ (by decide)).trans ?_
  exact (View.readCov_cons_toLoadRect _ _ _ _).trans ((shapeCast_self _ _).trans (hid_read1 c a1 a2 a3 a4 fx f1 f2 f3 f4))

/-- Block 2 of the second layer, as the body reads it back from its scratch. -/
theorem hid_back2 : kernelRun.sl.v261 c a1 a2 a3 a4 fx f1 f2 f3 f4 = (hid (xBlk c fx) (a1.view.read (Elt F) f1) (a2.view.read (Elt F) f2) (a3.view.read (Elt F) f3) (a4.view.read (Elt F) f4)) 2 := by
  unfold kernelRun.sl.v261 kernelRun.sl.Hh_5 kernelRun.sl.Hh_3 kernelRun.sl.Hh_1
  refine (rows_miss (d := ![10000, 512]) _ 8000 4000 0 0 S2000x512.size S2000x512.size _ _ _ _ (by decide)).trans ?_
  refine (rows_miss (d := ![10000, 512]) _ 6000 4000 0 0 S2000x512.size S2000x512.size _ _ _ _ (by decide)).trans ?_
  exact (View.readCov_cons_toLoadRect _ _ _ _).trans ((shapeCast_self _ _).trans (hid_read2 c a1 a2 a3 a4 fx f1 f2 f3 f4))

/-- Block 3 of the second layer, as the body reads it back from its scratch. -/
theorem hid_back3 : kernelRun.sl.v278 c a1 a2 a3 a4 fx f1 f2 f3 f4 = (hid (xBlk c fx) (a1.view.read (Elt F) f1) (a2.view.read (Elt F) f2) (a3.view.read (Elt F) f3) (a4.view.read (Elt F) f4)) 3 := by
  unfold kernelRun.sl.v278 kernelRun.sl.Hh_5 kernelRun.sl.Hh_3 kernelRun.sl.Hh_1
  refine (rows_miss (d := ![10000, 512]) _ 8000 6000 0 0 S2000x512.size S2000x512.size _ _ _ _ (by decide)).trans ?_
  exact (View.readCov_cons_toLoadRect _ _ _ _).trans ((shapeCast_self _ _).trans (hid_read3 c a1 a2 a3 a4 fx f1 f2 f3 f4))

/-- Block 4 of the second layer, as the body reads it back from its scratch. -/
theorem hid_back4 : kernelRun.sl.v295 c a1 a2 a3 a4 fx f1 f2 f3 f4 = (hid (xBlk c fx) (a1.view.read (Elt F) f1) (a2.view.read (Elt F) f2) (a3.view.read (Elt F) f3) (a4.view.read (Elt F) f4)) 4 := by
  unfold kernelRun.sl.v295 kernelRun.sl.Hh_5 kernelRun.sl.Hh_3 kernelRun.sl.Hh_1
  exact (View.readCov_cons_toLoadRect _ _ _ _).trans ((shapeCast_self _ _).trans (hid_read4 c a1 a2 a3 a4 fx f1 f2 f3 f4))

/-- The second batch norm's scale, folded into the third layer's weights. -/
theorem foldW_read : kernelRun.sl.v212 c a1 a2 a3 a4 a5 a7 fx f1 f2 f3 f4 f5 f7 = foldW (sc2 (hid (xBlk c fx) (a1.view.read (Elt F) f1) (a2.view.read (Elt F) f2) (a3.view.read (Elt F) f3) (a4.view.read (Elt F) f4)) (a5.view.read (Elt F) f5)) (a7.view.read (Elt F) f7) := by
  dsimp only [sc2, mean2]
  rw [← hid_read0, ← hid_read1, ← hid_read2, ← hid_read3, ← hid_read4, ← View.ld_unit_zero zero1 (by decide) (a5.view.read (Elt F) f5),
    ← View.ld_unit_zero zero2 (by decide) (a7.view.read (Elt F) f7)]
  rfl

/-- The second batch norm's shift, folded into the third layer's bias. -/
theorem foldB_read : kernelRun.sl.v221 c a1 a2 a3 a4 a5 a6 a7 a8 fx f1 f2 f3 f4 f5 f6 f7 f8 = foldB (sh2 (hid (xBlk c fx) (a1.view.read (Elt F) f1) (a2.view.read (Elt F) f2) (a3.view.read (Elt F) f3) (a4.view.read (Elt F) f4)) (a5.view.read (Elt F) f5) (a6.view.read (Elt F) f6)) (a7.view.read (Elt F) f7) (a8.view.read (Elt F) f8) := by
  dsimp only [sh2, sc2, mean2]
  rw [← hid_read0, ← hid_read1, ← hid_read2, ← hid_read3, ← hid_read4, ← View.ld_unit_zero zero1 (by decide) (a5.view.read (Elt F) f5),
    ← View.ld_unit_zero zero1 (by decide) (a6.view.read (Elt F) f6), ← View.ld_unit_zero zero2 (by decide) (a7.view.read (Elt F) f7), ← View.ld_unit_zero zero1 (by decide) (a8.view.read (Elt F) f8)]
  rfl

/-- The padded last weights. -/
theorem padW_read : kernelRun.sl.v224 c a9 f9 = padW (a9.view.read (Elt F) f9) := by
  rw [← View.ld_unit_zero zero2 (by decide) (a9.view.read (Elt F) f9)]; rfl

/-- Block 0 of the result, as the body computes it. -/
theorem res_read0 : kernelRun.sl.v236 c a1 a2 a3 a4 a5 a6 a7 a8 a9 a10 fx f1 f2 f3 f4 f5 f6 f7 f8 f9 f10 = (res (xBlk c fx) (a1.view.read (Elt F) f1) (a2.view.read (Elt F) f2) (a3.view.read (Elt F) f3) (a4.view.read (Elt F) f4) (a5.view.read (Elt F) f5) (a6.view.read (Elt F) f6) (a7.view.read (Elt F) f7) (a8.view.read (Elt F) f8) (a9.view.read (Elt F) f9) (a10.view.read (Elt F) f10)) 0 := by
  unfold res resOf
  rw [← foldW_read, ← foldB_read, ← padW_read, ← hid_back0, ← View.ld_unit_zero zero1 (by decide) (a10.view.read (Elt F) f10)]
  rfl

/-- Block 1 of the result, as the body computes it. -/
theorem res_read1 : kernelRun.sl.v253 c a1 a2 a3 a4 a5 a6 a7 a8 a9 a10 fx f1 f2 f3 f4 f5 f6 f7 f8 f9 f10 = (res (xBlk c fx) (a1.view.read (Elt F) f1) (a2.view.read (Elt F) f2) (a3.view.read (Elt F) f3) (a4.view.read (Elt F) f4) (a5.view.read (Elt F) f5) (a6.view.read (Elt F) f6) (a7.view.read (Elt F) f7) (a8.view.read (Elt F) f8) (a9.view.read (Elt F) f9) (a10.view.read (Elt F) f10)) 1 := by
  unfold res resOf
  rw [← foldW_read, ← foldB_read, ← padW_read, ← hid_back1, ← View.ld_unit_zero zero1 (by decide) (a10.view.read (Elt F) f10)]
  rfl

/-- Block 2 of the result, as the body computes it. -/
theorem res_read2 : kernelRun.sl.v270 c a1 a2 a3 a4 a5 a6 a7 a8 a9 a10 fx f1 f2 f3 f4 f5 f6 f7 f8 f9 f10 = (res (xBlk c fx) (a1.view.read (Elt F) f1) (a2.view.read (Elt F) f2) (a3.view.read (Elt F) f3) (a4.view.read (Elt F) f4) (a5.view.read (Elt F) f5) (a6.view.read (Elt F) f6) (a7.view.read (Elt F) f7) (a8.view.read (Elt F) f8) (a9.view.read (Elt F) f9) (a10.view.read (Elt F) f10)) 2 := by
  unfold res resOf
  rw [← foldW_read, ← foldB_read, ← padW_read, ← hid_back2, ← View.ld_unit_zero zero1 (by decide) (a10.view.read (Elt F) f10)]
  rfl

/-- Block 3 of the result, as the body computes it. -/
theorem res_read3 : kernelRun.sl.v287 c a1 a2 a3 a4 a5 a6 a7 a8 a9 a10 fx f1 f2 f3 f4 f5 f6 f7 f8 f9 f10 = (res (xBlk c fx) (a1.view.read (Elt F) f1) (a2.view.read (Elt F) f2) (a3.view.read (Elt F) f3) (a4.view.read (Elt F) f4) (a5.view.read (Elt F) f5) (a6.view.read (Elt F) f6) (a7.view.read (Elt F) f7) (a8.view.read (Elt F) f8) (a9.view.read (Elt F) f9) (a10.view.read (Elt F) f10)) 3 := by
  unfold res resOf
  rw [← foldW_read, ← foldB_read, ← padW_read, ← hid_back3, ← View.ld_unit_zero zero1 (by decide) (a10.view.read (Elt F) f10)]
  rfl

/-- Block 4 of the result, as the body computes it. -/
theorem res_read4 : kernelRun.sl.v304 c a1 a2 a3 a4 a5 a6 a7 a8 a9 a10 fx f1 f2 f3 f4 f5 f6 f7 f8 f9 f10 = (res (xBlk c fx) (a1.view.read (Elt F) f1) (a2.view.read (Elt F) f2) (a3.view.read (Elt F) f3) (a4.view.read (Elt F) f4) (a5.view.read (Elt F) f5) (a6.view.read (Elt F) f6) (a7.view.read (Elt F) f7) (a8.view.read (Elt F) f8) (a9.view.read (Elt F) f9) (a10.view.read (Elt F) f10)) 4 := by
  unfold res resOf
  rw [← foldW_read, ← foldB_read, ← padW_read, ← hid_back4, ← View.ld_unit_zero zero1 (by decide) (a10.view.read (Elt F) f10)]
  rfl

/-- A copy out of the rows the last store wrote takes what it stored. -/
theorem copy_out (fw : RawBuf (F := F) c ovM) (off : Fin 2 → ℕ) (inb) (h1) (w : Vec F S2000x10 .f32) (L : List (View.Piece (Elt F) S10000x10 .f32)) :
    ReadAs.same.apply (View.read (Elt F) (ovM.slice (Rect.unit off S2000x10.size inb) h1).view
      (ovM.view.writes (Elt F) fw (⟨Rect.unit off S2000x10.size inb, w⟩ :: L))) = w :=
  funext fun x => View.read_writes_cons_emb (v := ovM.view) _ _ _ _ _

/-- The copy of block 0 of the result. -/
theorem res_copy0 (fw : RawBuf (F := F) c ovM) : kernelRun.sl.dma34 c a1 a2 a3 a4 a5 a6 a7 a8 a9 a10 fx f1 f2 f3 f4 f5 f6 f7 f8 f9 f10 fw = (res (xBlk c fx) (a1.view.read (Elt F) f1) (a2.view.read (Elt F) f2) (a3.view.read (Elt F) f3) (a4.view.read (Elt F) f4) (a5.view.read (Elt F) f5) (a6.view.read (Elt F) f6) (a7.view.read (Elt F) f7) (a8.view.read (Elt F) f8) (a9.view.read (Elt F) f9) (a10.view.read (Elt F) f10)) 0 := by
  unfold kernelRun.sl.dma34 kernelRun.sl.Hw_1
  exact (copy_out c fw _ _ _ _ _).trans ((shapeCast_self _ _).trans (res_read0 c a1 a2 a3 a4 a5 a6 a7 a8 a9 a10 fx f1 f2 f3 f4 f5 f6 f7 f8 f9 f10))

/-- The copy of block 1 of the result. -/
theorem res_copy1 (fw : RawBuf (F := F) c ovM) : kernelRun.sl.dma37 c a1 a2 a3 a4 a5 a6 a7 a8 a9 a10 fx f1 f2 f3 f4 f5 f6 f7 f8 f9 f10 fw = (res (xBlk c fx) (a1.view.read (Elt F) f1) (a2.view.read (Elt F) f2) (a3.view.read (Elt F) f3) (a4.view.read (Elt F) f4) (a5.view.read (Elt F) f5) (a6.view.read (Elt F) f6) (a7.view.read (Elt F) f7) (a8.view.read (Elt F) f8) (a9.view.read (Elt F) f9) (a10.view.read (Elt F) f10)) 1 := by
  unfold kernelRun.sl.dma37 kernelRun.sl.Hw_2
  exact (copy_out c fw _ _ _ _ _).trans ((shapeCast_self _ _).trans (res_read1 c a1 a2 a3 a4 a5 a6 a7 a8 a9 a10 fx f1 f2 f3 f4 f5 f6 f7 f8 f9 f10))

/-- The copy of block 2 of the result. -/
theorem res_copy2 (fw : RawBuf (F := F) c ovM) : kernelRun.sl.dma40 c a1 a2 a3 a4 a5 a6 a7 a8 a9 a10 fx f1 f2 f3 f4 f5 f6 f7 f8 f9 f10 fw = (res (xBlk c fx) (a1.view.read (Elt F) f1) (a2.view.read (Elt F) f2) (a3.view.read (Elt F) f3) (a4.view.read (Elt F) f4) (a5.view.read (Elt F) f5) (a6.view.read (Elt F) f6) (a7.view.read (Elt F) f7) (a8.view.read (Elt F) f8) (a9.view.read (Elt F) f9) (a10.view.read (Elt F) f10)) 2 := by
  unfold kernelRun.sl.dma40 kernelRun.sl.Hw_3
  exact (copy_out c fw _ _ _ _ _).trans ((shapeCast_self _ _).trans (res_read2 c a1 a2 a3 a4 a5 a6 a7 a8 a9 a10 fx f1 f2 f3 f4 f5 f6 f7 f8 f9 f10))

/-- The copy of block 3 of the result. -/
theorem res_copy3 (fw : RawBuf (F := F) c ovM) : kernelRun.sl.dma43 c a1 a2 a3 a4 a5 a6 a7 a8 a9 a10 fx f1 f2 f3 f4 f5 f6 f7 f8 f9 f10 fw = (res (xBlk c fx) (a1.view.read (Elt F) f1) (a2.view.read (Elt F) f2) (a3.view.read (Elt F) f3) (a4.view.read (Elt F) f4) (a5.view.read (Elt F) f5) (a6.view.read (Elt F) f6) (a7.view.read (Elt F) f7) (a8.view.read (Elt F) f8) (a9.view.read (Elt F) f9) (a10.view.read (Elt F) f10)) 3 := by
  unfold kernelRun.sl.dma43 kernelRun.sl.Hw_4
  exact (copy_out c fw _ _ _ _ _).trans ((shapeCast_self _ _).trans (res_read3 c a1 a2 a3 a4 a5 a6 a7 a8 a9 a10 fx f1 f2 f3 f4 f5 f6 f7 f8 f9 f10))

/-- The copy of block 4 of the result. -/
theorem res_copy4 (fw : RawBuf (F := F) c ovM) : kernelRun.sl.dma46 c a1 a2 a3 a4 a5 a6 a7 a8 a9 a10 fx f1 f2 f3 f4 f5 f6 f7 f8 f9 f10 fw = (res (xBlk c fx) (a1.view.read (Elt F) f1) (a2.view.read (Elt F) f2) (a3.view.read (Elt F) f3) (a4.view.read (Elt F) f4) (a5.view.read (Elt F) f5) (a6.view.read (Elt F) f6) (a7.view.read (Elt F) f7) (a8.view.read (Elt F) f8) (a9.view.read (Elt F) f9) (a10.view.read (Elt F) f10)) 4 := by
  unfold kernelRun.sl.dma46 kernelRun.sl.Hw_5
  exact (copy_out c fw _ _ _ _ _).trans ((shapeCast_self _ _).trans (res_read4 c a1 a2 a3 a4 a5 a6 a7 a8 a9 a10 fx f1 f2 f3 f4 f5 f6 f7 f8 f9 f10))

/-- A store of block `k` at its own rows stores the stacked array's values there. -/
theorem stack_rows (R : Fin 5 → Vec F S2000x10 .f32) (k : Fin 5) (off : Fin 2 → ℕ) (h : off = ![2000 * k.val, 0]) (inb)
    (x : (Rect.unit (s := S10000x10) off S2000x10.size inb).shape.Idx) :
    R k x = stackB R ((Rect.unit (s := S10000x10) off S2000x10.size inb).emb x) := by
  subst h
  have hx : (x (0 : Fin 2)).val < 2000 := (x (0 : Fin 2)).isLt
  have hk := k.isLt
  unfold stackB
  have e0 : ((Rect.unit (s := S10000x10) ![2000 * k.val, 0] S2000x10.size inb).emb x (0 : Fin 2)).val = 2000 * k.val + 1 * (x (0 : Fin 2)).val := rfl
  have e1 : ((Rect.unit (s := S10000x10) ![2000 * k.val, 0] S2000x10.size inb).emb x (1 : Fin 2)).val = 0 + 1 * (x (1 : Fin 2)).val := rfl
  refine congrArg₂ (fun (k' : Fin 5) (z : S2000x10.Idx) => R k' z) (Fin.ext ?_) (funext fun a => ?_)
  · show k.val = ((Rect.unit (s := S10000x10) ![2000 * k.val, 0] S2000x10.size inb).emb x (0 : Fin 2)).val / 2000
    rw [e0]; omega
  · match a with
    | ⟨0, _⟩ =>
      refine Fin.ext ?_
      show (x (0 : Fin 2)).val = ((Rect.unit (s := S10000x10) ![2000 * k.val, 0] S2000x10.size inb).emb x (0 : Fin 2)).val % 2000
      rw [e0]; omega
    | ⟨1, _⟩ =>
      refine Fin.ext ?_
      show (x (1 : Fin 2)).val = ((Rect.unit (s := S10000x10) ![2000 * k.val, 0] S2000x10.size inb).emb x (1 : Fin 2)).val
      rw [e1]; omega

/-- An index whose row lies in a block's 2000 rows lies in the block's rectangle. -/
theorem mem_rows (y : S10000x10.Idx) (n : ℕ) (inb : ∀ a, (![n, 0] : Fin 2 → ℕ) a + S2000x10.size a ≤ S10000x10.size a)
    (h : n ≤ (y (0 : Fin 2)).val) (h' : (y (0 : Fin 2)).val < n + 2000) : y ∈ (Rect.unit (s := S10000x10) ![n, 0] S2000x10.size inb).set :=
  Rect.mem_set_unit.mpr fun a => by
    match a with
    | ⟨0, _⟩ => exact ⟨h, h'⟩
    | ⟨1, _⟩ => exact ⟨Nat.zero_le _, by have h1 : (y (1 : Fin 2)).val < 10 := (y (1 : Fin 2)).isLt; show (y (1 : Fin 2)).val < 0 + 10; omega⟩

/-- The five stores of the blocks leave their stack. -/
theorem stack_canon (fo : RawBuf (F := F) c outM) (R : Fin 5 → Vec F S2000x10 .f32) :
    outM.view.read (Elt F) (outM.view.writes (Elt F) fo
      [⟨Rect.unit ![8000, 0] S2000x10.size inb_S10000x10_S2000x10_8000_0, R 4⟩, ⟨Rect.unit ![6000, 0] S2000x10.size inb_S10000x10_S2000x10_6000_0, R 3⟩,
       ⟨Rect.unit ![4000, 0] S2000x10.size inb_S10000x10_S2000x10_4000_0, R 2⟩, ⟨Rect.unit ![2000, 0] S2000x10.size inb_S10000x10_S2000x10_2000_0, R 1⟩,
       ⟨Rect.unit ![0, 0] S2000x10.size inb_S10000x10_S2000x10_0_0, R 0⟩]) = stackB R := by
  funext y
  have hc : ∃ p ∈ ([⟨Rect.unit ![8000, 0] S2000x10.size inb_S10000x10_S2000x10_8000_0, R 4⟩, ⟨Rect.unit ![6000, 0] S2000x10.size inb_S10000x10_S2000x10_6000_0, R 3⟩,
       ⟨Rect.unit ![4000, 0] S2000x10.size inb_S10000x10_S2000x10_4000_0, R 2⟩, ⟨Rect.unit ![2000, 0] S2000x10.size inb_S10000x10_S2000x10_2000_0, R 1⟩,
       ⟨Rect.unit ![0, 0] S2000x10.size inb_S10000x10_S2000x10_0_0, R 0⟩] : List (View.Piece (Elt F) S10000x10 .f32)), y ∈ p.1.set := by
    have h0 : (y (0 : Fin 2)).val < 10000 := (y (0 : Fin 2)).isLt
    by_cases c4 : 8000 ≤ (y (0 : Fin 2)).val
    · exact ⟨_, List.mem_cons_self, mem_rows y 8000 inb_S10000x10_S2000x10_8000_0 (by omega) (by omega)⟩
    by_cases c3 : 6000 ≤ (y (0 : Fin 2)).val
    · exact ⟨_, .tail _ List.mem_cons_self, mem_rows y 6000 inb_S10000x10_S2000x10_6000_0 (by omega) (by omega)⟩
    by_cases c2 : 4000 ≤ (y (0 : Fin 2)).val
    · exact ⟨_, .tail _ (.tail _ List.mem_cons_self), mem_rows y 4000 inb_S10000x10_S2000x10_4000_0 (by omega) (by omega)⟩
    by_cases c1 : 2000 ≤ (y (0 : Fin 2)).val
    · exact ⟨_, .tail _ (.tail _ (.tail _ List.mem_cons_self)), mem_rows y 2000 inb_S10000x10_S2000x10_2000_0 (by omega) (by omega)⟩
    exact ⟨_, .tail _ (.tail _ (.tail _ (.tail _ List.mem_cons_self))), mem_rows y 0 inb_S10000x10_S2000x10_0_0 (by omega) (by omega)⟩
  refine (View.read_writes_apply_eq_canon _ _ y _ hc).trans (View.canon_apply_of_pieces _ _ ?_ y hc)
  intro p hp x
  simp only [List.mem_cons, List.not_mem_nil, _root_.or_false] at hp
  rcases hp with rfl | rfl | rfl | rfl | rfl
  · exact stack_rows R 4 ![8000, 0] rfl inb_S10000x10_S2000x10_8000_0 x
  · exact stack_rows R 3 ![6000, 0] rfl inb_S10000x10_S2000x10_6000_0 x
  · exact stack_rows R 2 ![4000, 0] rfl inb_S10000x10_S2000x10_4000_0 x
  · exact stack_rows R 1 ![2000, 0] rfl inb_S10000x10_S2000x10_2000_0 x
  · exact stack_rows R 0 ![0, 0] rfl inb_S10000x10_S2000x10_0_0 x

/-- What the run leaves in the result is the stack of the five blocks. -/
theorem run_value (ha1 : a1.IsWhole) (ha2 : a2.IsWhole) (ha3 : a3.IsWhole) (ha4 : a4.IsWhole) (ha5 : a5.IsWhole) (ha6 : a6.IsWhole) (ha7 : a7.IsWhole) (ha8 : a8.IsWhole) (ha9 : a9.IsWhole) (ha10 : a10.IsWhole) (fo : RawBuf (F := F) c outM) (fh : RawBuf (F := F) c hM) (fv : RawBuf (F := F) c xvM) (fw : RawBuf (F := F) c ovM) :
    outM.view.read (Elt F) (kernelRun c a1 ha1 a2 ha2 a3 ha3 a4 ha4 a5 ha5 a6 ha6 a7 ha7 a8 ha8 a9 ha9 a10 ha10 fx f1 f2 f3 f4 f5 f6 f7 f8 f9 f10 fo fh fv fw).1 = stackB (res (xBlk c fx) (a1.view.read (Elt F) f1) (a2.view.read (Elt F) f2) (a3.view.read (Elt F) f3) (a4.view.read (Elt F) f4) (a5.view.read (Elt F) f5) (a6.view.read (Elt F) f6) (a7.view.read (Elt F) f7) (a8.view.read (Elt F) f8) (a9.view.read (Elt F) f9) (a10.view.read (Elt F) f10)) := by
  unfold kernelRun
  dsimp only
  rw [res_copy0, res_copy1, res_copy2, res_copy3, res_copy4]
  exact stack_canon c fo (res (xBlk c fx) (a1.view.read (Elt F) f1) (a2.view.read (Elt F) f2) (a3.view.read (Elt F) f3) (a4.view.read (Elt F) f4) (a5.view.read (Elt F) f5) (a6.view.read (Elt F) f6) (a7.view.read (Elt F) f7) (a8.view.read (Elt F) f8) (a9.view.read (Elt F) f9) (a10.view.read (Elt F) f10))

end Cert.KernelIdeal.Hand

end
-- ==== Proof.Launch.lean ====
/-
  The launch: the kernel's region around the body, from the arguments as the program finds them to the result it leaves.
-/
module

public import proofs.«01_k».proof.Proof.RunValue
public import Idealize.ShloMosaic.Lib.Pipeline.FrameValue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F] [Named F]

/-- The proof's user algebra: the pipeline's beside the transfers' counters. -/
local notation "𝕄" => MT nD τ sig Unit (Elt F) ℕ (Pipeline.UD sig nD τ) ℕ

variable (m : (ℓ : Loc nD τ sig) → Buf (Elt F) ℓ) (ρ : Dev nD → PrngReg)

/-- A buffer as the program finds it. -/
abbrev V (c : Dev nD) (b : Ref sig .tc) : Buf (Elt F) ((c : Thread nD τ).loc b) := m ((c : Thread nD τ).loc b)

/-- The array the kernel computes from its arguments. -/
def outVal (c : Dev nD) : Vec F S10000x10 .f32 :=
  stackB (res (rowsB (V m c main_arg0)) (V m c main_arg3) (V m c main_arg5) (V m c main_arg6) (V m c main_arg7) (V m c main_arg9) (V m c main_arg10) (V m c main_arg11) (V m c main_arg12) (V m c main_arg13) (V m c main_arg14))

/-- The buffers as the program leaves them: the result at the computed array. -/
def G (c : Dev nD) : (b : Ref sig .tc) → Buf (Elt F) ((c : Thread nD τ).loc b) :=
  Function.update (V m c) main_v0 (outVal m c)

/-- The body's ten copy cells. -/
abbrev osem0 : Fin 10 → SemLoc sig := fun j => (![SemLoc.dma 10, SemLoc.dma 11, SemLoc.dma 12, SemLoc.dma 13, SemLoc.dma 14, SemLoc.dma 15, SemLoc.dma 16, SemLoc.dma 17, SemLoc.dma 18, SemLoc.dma 19] : Fin 10 → SemLoc sig) j
theorem ownSemFacts0 : Pipeline.OwnSemFacts spec0 osem0 := by decide
/-- What the body reads in HBM itself: the features. -/
def H0 : Finset (Ref sig .tc) := {main_arg0}
theorem H0_sub : H0 ⊆ Pipeline.restRefs sig spec0 := by decide
/-- What the body writes in HBM itself: the result. -/
def R0 : Finset (Ref sig .tc) := {main_v0}
theorem R0_sub : R0 ⊆ Pipeline.restRefs sig spec0 \ H0 := by decide

theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0) := by
  rw [Pipeline.ownSems0_eq_of_list c osem0 [0, 1, 2, 3, 4, 5, 6, 7, 8, 9] (by decide) (by decide)]; rfl
theorem hbm_eq (c : Dev nD) :
    (bigSep H0 (fun b => ((c : Thread nD τ).loc b) ↦{fullShare} V m c b) : sProp 𝕄) = wholePt c xM (V m c main_arg0) := by
  rw [BI.bigSep_eq_bigSepL_of_eq [main_arg0] (by decide) (by decide)]; rfl
theorem routed_eq (c : Dev nD) (W : (b : Ref sig .tc) → Buf (Elt F) ((c : Thread nD τ).loc b)) :
    (Pipeline.routed R0 c W : sProp 𝕄) = wholePt c outM (W main_v0) := by
  unfold Pipeline.routed; rw [BI.bigSep_eq_bigSepL_of_eq [main_v0] (by decide) (by decide)]; rfl

/-- What the body holds beside its staged operands: the scratch buffers at some contents, the register, its cells at zero,
    the features, and the result at `W`. -/
theorem held_eq (c : Dev nD) (W : (c : Dev nD) → (b : Ref sig .tc) → Buf (Elt F) ((c : Thread nD τ).loc b)) :
    (Pipeline.ΦDRG osem0 spec0 H0 R0 (V m) W c : sProp 𝕄)
      = iprop(iprop((∃ f, wholePt c hM f) ∗ (∃ f, wholePt c xvM f) ∗ (∃ f, wholePt c ovM f)) ∗ (∃ r, prngReg c r)
          ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0)
          ∗ wholePt c xM (V m c main_arg0) ∗ wholePt c outM (W c main_v0)) := by
  rw [Pipeline.ΦDRG_eq, scopedRest0_eq, ownSems_eq, hbm_eq, routed_eq]

/-- A window's block, off the array the region finds. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data of the region: the arrays as found, every staged operand left as it was, the result found before the body and
    computed after it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
  Φ p := if p.val = 0 then Pipeline.ΦDRG osem0 spec0 H0 R0 (V m) (V m) c else Pipeline.ΦDRG osem0 spec0 H0 R0 (V m) (G m) c
  q _ := fullShare
  owed _ := 0

theorem A_eq (c : Dev nD) (w : Fin cfg0.W) : (dats m 0 c).A w = V m c (Pipeline.arrRef spec0 w) := by
  dsimp only [dats]
theorem Phi_pre (c : Dev nD) (t : Fin cfg0.N) : (dats m 0 c).Φ t.castSucc = Pipeline.ΦDRG osem0 spec0 H0 R0 (V m) (V m) c := by
  obtain rfl := fin_N0 t; rfl
theorem Phi_post (c : Dev nD) (t : Fin cfg0.N) : (dats m 0 c).Φ t.succ = Pipeline.ΦDRG osem0 spec0 H0 R0 (V m) (G m) c := by
  obtain rfl := fin_N0 t; rfl

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rfl) t d).trans
    (by unfold Dat.fetched Dat.blockOf iblk; rfl)
/-- Window 0's block is the whole of its argument. -/
theorem iblk_0 (c : Dev nD) (t : Fin cfg0.N) : iblk m c 0 t = V m c main_arg3 := by
  obtain rfl := fin_N0 t
  funext y
  unfold iblk
  refine congrArg (V m c main_arg3) (funext fun a => Fin.ext ?_)
  match a with
  | ⟨0, _⟩ => show 0 + 1 * (y 0).val = (y 0).val; omega
  | ⟨1, _⟩ => show 0 + 1 * (y 1).val = (y 1).val; omega

theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rfl) t d).trans
    (by unfold Dat.fetched Dat.blockOf iblk; rfl)
/-- Window 1's block is the whole of its argument. -/
theorem iblk_1 (c : Dev nD) (t : Fin cfg0.N) : iblk m c 1 t = V m c main_arg5 := by
  obtain rfl := fin_N0 t
  funext y
  unfold iblk
  refine congrArg (V m c main_arg5) (funext fun a => Fin.ext ?_)
  match a with
  | ⟨0, _⟩ => show 0 + 1 * (y 0).val = (y 0).val; omega

theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rfl) t d).trans
    (by unfold Dat.fetched Dat.blockOf iblk; rfl)
/-- Window 2's block is the whole of its argument. -/
theorem iblk_2 (c : Dev nD) (t : Fin cfg0.N) : iblk m c 2 t = V m c main_arg6 := by
  obtain rfl := fin_N0 t
  funext y
  unfold iblk
  refine congrArg (V m c main_arg6) (funext fun a => Fin.ext ?_)
  match a with
  | ⟨0, _⟩ => show 0 + 1 * (y 0).val = (y 0).val; omega

theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rfl) t d).trans
    (by unfold Dat.fetched Dat.blockOf iblk; rfl)
/-- Window 3's block is the whole of its argument. -/
theorem iblk_3 (c : Dev nD) (t : Fin cfg0.N) : iblk m c 3 t = V m c main_arg7 := by
  obtain rfl := fin_N0 t
  funext y
  unfold iblk
  refine congrArg (V m c main_arg7) (funext fun a => Fin.ext ?_)
  match a with
  | ⟨0, _⟩ => show 0 + 1 * (y 0).val = (y 0).val; omega
  | ⟨1, _⟩ => show 0 + 1 * (y 1).val = (y 1).val; omega

theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rfl) t d).trans
    (by unfold Dat.fetched Dat.blockOf iblk; rfl)
/-- Window 4's block is the whole of its argument. -/
theorem iblk_4 (c : Dev nD) (t : Fin cfg0.N) : iblk m c 4 t = V m c main_arg9 := by
  obtain rfl := fin_N0 t
  funext y
  unfold iblk
  refine congrArg (V m c main_arg9) (funext fun a => Fin.ext ?_)
  match a with
  | ⟨0, _⟩ => show 0 + 1 * (y 0).val = (y 0).val; omega

theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rfl) t d).trans
    (by unfold Dat.fetched Dat.blockOf iblk; rfl)
/-- Window 5's block is the whole of its argument. -/
theorem iblk_5 (c : Dev nD) (t : Fin cfg0.N) : iblk m c 5 t = V m c main_arg10 := by
  obtain rfl := fin_N0 t
  funext y
  unfold iblk
  refine congrArg (V m c main_arg10) (funext fun a => Fin.ext ?_)
  match a with
  | ⟨0, _⟩ => show 0 + 1 * (y 0).val = (y 0).val; omega

theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rfl) t d).trans
    (by unfold Dat.fetched Dat.blockOf iblk; rfl)
/-- Window 6's block is the whole of its argument. -/
theorem iblk_6 (c : Dev nD) (t : Fin cfg0.N) : iblk m c 6 t = V m c main_arg11 := by
  obtain rfl := fin_N0 t
  funext y
  unfold iblk
  refine congrArg (V m c main_arg11) (funext fun a => Fin.ext ?_)
  match a with
  | ⟨0, _⟩ => show 0 + 1 * (y 0).val = (y 0).val; omega
  | ⟨1, _⟩ => show 0 + 1 * (y 1).val = (y 1).val; omega

theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rfl) t d).trans
    (by unfold Dat.fetched Dat.blockOf iblk; rfl)
/-- Window 7's block is the whole of its argument. -/
theorem iblk_7 (c : Dev nD) (t : Fin cfg0.N) : iblk m c 7 t = V m c main_arg12 := by
  obtain rfl := fin_N0 t
  funext y
  unfold iblk
  refine congrArg (V m c main_arg12) (funext fun a => Fin.ext ?_)
  match a with
  | ⟨0, _⟩ => show 0 + 1 * (y 0).val = (y 0).val; omega

theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rfl) t d).trans
    (by unfold Dat.fetched Dat.blockOf iblk; rfl)
/-- Window 8's block is the whole of its argument. -/
theorem iblk_8 (c : Dev nD) (t : Fin cfg0.N) : iblk m c 8 t = V m c main_arg13 := by
  obtain rfl := fin_N0 t
  funext y
  unfold iblk
  refine congrArg (V m c main_arg13) (funext fun a => Fin.ext ?_)
  match a with
  | ⟨0, _⟩ => show 0 + 1 * (y 0).val = (y 0).val; omega
  | ⟨1, _⟩ => show 0 + 1 * (y 1).val = (y 1).val; omega

theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rfl) t d).trans
    (by unfold Dat.fetched Dat.blockOf iblk; rfl)
/-- Window 9's block is the whole of its argument. -/
theorem iblk_9 (c : Dev nD) (t : Fin cfg0.N) : iblk m c 9 t = V m c main_arg14 := by
  obtain rfl := fin_N0 t
  funext y
  unfold iblk
  refine congrArg (V m c main_arg14) (funext fun a => Fin.ext ?_)
  match a with
  | ⟨0, _⟩ => show 0 + 1 * (y 0).val = (y 0).val; omega

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t))

/-- The contents the run leaves in the result are the computed array. -/
theorem left_eq (c : Dev nD) (t : Fin cfg0.N) (f1 : RawBuf (F := F) c (st0_0 t)) (h1 : (st0_0 t).view.read (Elt F) f1 = iblk m c 0 t) (f2 : RawBuf (F := F) c (st0_1 t)) (h2 : (st0_1 t).view.read (Elt F) f2 = iblk m c 1 t) (f3 : RawBuf (F := F) c (st0_2 t)) (h3 : (st0_2 t).view.read (Elt F) f3 = iblk m c 2 t) (f4 : RawBuf (F := F) c (st0_3 t)) (h4 : (st0_3 t).view.read (Elt F) f4 = iblk m c 3 t) (f5 : RawBuf (F := F) c (st0_4 t)) (h5 : (st0_4 t).view.read (Elt F) f5 = iblk m c 4 t) (f6 : RawBuf (F := F) c (st0_5 t)) (h6 : (st0_5 t).view.read (Elt F) f6 = iblk m c 5 t) (f7 : RawBuf (F := F) c (st0_6 t)) (h7 : (st0_6 t).view.read (Elt F) f7 = iblk m c 6 t) (f8 : RawBuf (F := F) c (st0_7 t)) (h8 : (st0_7 t).view.read (Elt F) f8 = iblk m c 7 t) (f9 : RawBuf (F := F) c (st0_8 t)) (h9 : (st0_8 t).view.read (Elt F) f9 = iblk m c 8 t) (f10 : RawBuf (F := F) c (st0_9 t)) (h10 : (st0_9 t).view.read (Elt F) f10 = iblk m c 9 t)
    (fo : RawBuf (F := F) c outM) (fh : RawBuf (F := F) c hM) (fv : RawBuf (F := F) c xvM) (fw : RawBuf (F := F) c ovM) :
    (kernelRun c (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) (st0_7 t) (hstage0_7 0) (st0_8 t) (hstage0_8 0) (st0_9 t) (hstage0_9 0) (V m c main_arg0) f1 f2 f3 f4 f5 f6 f7 f8 f9 f10 fo fh fv fw).1
      = G m c main_v0 := by
  have hG : G m c main_v0 = outVal m c := Function.update_self _ _ _
  rw [hG]
  have h := run_value c (st0_0 t) (st0_1 t) (st0_2 t) (st0_3 t) (st0_4 t) (st0_5 t) (st0_6 t) (st0_7 t) (st0_8 t) (st0_9 t) (V m c main_arg0) f1 f2 f3 f4 f5 f6 f7 f8 f9 f10 (hstage0_0 0) (hstage0_1 0) (hstage0_2 0) (hstage0_3 0) (hstage0_4 0) (hstage0_5 0) (hstage0_6 0) (hstage0_7 0) (hstage0_8 0) (hstage0_9 0) fo fh fv fw
  simp only [h1, iblk_0, h2, iblk_1, h3, iblk_2, h4, iblk_3, h5, iblk_4, h6, iblk_5, h7, iblk_6, h8, iblk_7, h9, iblk_8, h10, iblk_9] at h
  exact h

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Phi_pre, Phi_post, held_eq, held_eq]
  unfold Dat.owesAt Pipeline.owesWithin
  rw [show (dats m 0 c).owed t.castSucc = 0 from rfl, show (dats m 0 c).owed t.succ = 0 from rfl]
  simp only [before_0, before_1, before_2, before_3, before_4, before_5, before_6, before_7, before_8, before_9]
  simp only [after_0, after_1, after_2, after_3, after_4, after_5, after_6, after_7, after_8, after_9]
  unfold owns
  iintro ⟨⟨⟨⟨%fh, Hh⟩, ⟨%fv, Hv⟩, ⟨%fw, Hw⟩⟩, Hg, ⟨Hq10, Hq11, Hq12, Hq13, Hq14, Hq15, Hq16, Hq17, Hq18, Hq19⟩, Hx, Ho⟩, ⟨%W, -, HW⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩⟩
  iapply ((kernelRun c (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) (st0_7 t) (hstage0_7 0) (st0_8 t) (hstage0_8 0) (st0_9 t) (hstage0_9 0) (V m c main_arg0) f1 f2 f3 f4 f5 f6 f7 f8 f9 f10 (V m c main_v0) fh fv fw).2 W _)
  isplitl [H1 H2 H3 H4 H5 H6 H7 H8 H9 H10]
  · skip
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [Hx]; · iexact Hx
  isplitl [Ho]; · iexact Ho
  isplitl [Hh]; · iexact Hh
  isplitl [Hv]; · iexact Hv
  isplitl [Hw]; · iexact Hw
  isplitl [Hq10 Hq11 Hq12 Hq13 Hq14 Hq15 Hq16 Hq17 Hq18 Hq19]
  · skip
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    iexact Hq19
  isplitl [HW]; · iexact HW
  rw [left_eq m c t f1 h1 f2 h2 f3 h3 f4 h4 f5 h5 f6 h6 f7 h7 f8 h8 f9 h9 f10 h10 (V m c main_v0) fh fv fw]
  iintro ⟨⟨H1, H2, H3, H4, H5, H6, H7, H8, H9, H10⟩, Hx, Ho, Hh, Hv, Hw, ⟨Hq10, Hq11, Hq12, Hq13, Hq14, Hq15, Hq16, Hq17, Hq18, Hq19⟩, ⟨%W', HW'⟩⟩
  isplitl [Hh Hv Hw Hg Hq10 Hq11 Hq12 Hq13 Hq14 Hq15 Hq16 Hq17 Hq18 Hq19 Hx Ho]
  · isplitl [Hh Hv Hw]
    · isplitl [Hh]; · iexact Hh
      isplitl [Hv]; · iexact Hv
      iexact Hw
    isplitl [Hg]; · iexact Hg
    isplitl [Hq10 Hq11 Hq12 Hq13 Hq14 Hq15 Hq16 Hq17 Hq18 Hq19]
    · skip
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      iexact Hq19
    isplitl [Hx]; · iexact Hx
    iexact Ho
  isplitl [HW']
  · iexists W'; isplitr
    · ipureintro; exact fun _ _ => Or.inl trivial
    · iexact HW'
  isplitl [H1]
  · iexists f1; isplitr
    · ipureintro; exact h1
    · iexact H1
  isplitl [H2]
  · iexists f2; isplitr
    · ipureintro; exact h2
    · iexact H2
  isplitl [H3]
  · iexists f3; isplitr
    · ipureintro; exact h3
    · iexact H3
  isplitl [H4]
  · iexists f4; isplitr
    · ipureintro; exact h4
    · iexact H4
  isplitl [H5]
  · iexists f5; isplitr
    · ipureintro; exact h5
    · iexact H5
  isplitl [H6]
  · iexists f6; isplitr
    · ipureintro; exact h6
    · iexact H6
  isplitl [H7]
  · iexists f7; isplitr
    · ipureintro; exact h7
    · iexact H7
  isplitl [H8]
  · iexists f8; isplitr
    · ipureintro; exact h8
    · iexact H8
  isplitl [H9]
  · iexists f9; isplitr
    · ipureintro; exact h9
    · iexact H9
  iexists f10; isplitr
  · ipureintro; exact h10
  · iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
theorem run_launch : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := G m)
    (hin := fun _ => .rfl) (hout := fun _ => .rfl)

/-- The whole program, over any float values and from any memory: it ends, with the computed array in the result, every argument
    as it was and every semaphore counter at zero. -/
theorem run_main : θ_run defs (onTc (τ := τ) (main (F := F))) ⟨m, fun _ => 0, ρ⟩ (fun r => (∀ c : Dev nD,
      r.2.mem ((c.tc : Thread nD τ).loc main_v0) = outVal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun _ h => ⟨fun c => ⟨(h.1.written c (b := main_v0) (by decide)).trans (Function.update_self _ _ _),
      ((h.1.1 c).2 main_arg0 (Finset.mem_sdiff.mpr ⟨Pipeline.mem_restRefs_of main_arg0 (by decide) (by decide), by decide⟩)),
      ((h.1.1 c).2 main_arg1 (Finset.mem_sdiff.mpr ⟨Pipeline.mem_restRefs_of main_arg1 (by decide) (by decide), by decide⟩)),
      ((h.1.1 c).2 main_arg2 (Finset.mem_sdiff.mpr ⟨Pipeline.mem_restRefs_of main_arg2 (by decide) (by decide), by decide⟩)),
      (((h.1.1 c).1 0).trans (((dats m 0 c).arrAt_in 0 rfl _).trans (A_eq m c 0))),
      ((h.1.1 c).2 main_arg4 (Finset.mem_sdiff.mpr ⟨Pipeline.mem_restRefs_of main_arg4 (by decide) (by decide), by decide⟩)),
      (((h.1.1 c).1 1).trans (((dats m 0 c).arrAt_in 1 rfl _).trans (A_eq m c 1))),
      (((h.1.1 c).1 2).trans (((dats m 0 c).arrAt_in 2 rfl _).trans (A_eq m c 2))),
      (((h.1.1 c).1 3).trans (((dats m 0 c).arrAt_in 3 rfl _).trans (A_eq m c 3))),
      ((h.1.1 c).2 main_arg8 (Finset.mem_sdiff.mpr ⟨Pipeline.mem_restRefs_of main_arg8 (by decide) (by decide), by decide⟩)),
      (((h.1.1 c).1 4).trans (((dats m 0 c).arrAt_in 4 rfl _).trans (A_eq m c 4))),
      (((h.1.1 c).1 5).trans (((dats m 0 c).arrAt_in 5 rfl _).trans (A_eq m c 5))),
      (((h.1.1 c).1 6).trans (((dats m 0 c).arrAt_in 6 rfl _).trans (A_eq m c 6))),
      (((h.1.1 c).1 7).trans (((dats m 0 c).arrAt_in 7 rfl _).trans (A_eq m c 7))),
      (((h.1.1 c).1 8).trans (((dats m 0 c).arrAt_in 8 rfl _).trans (A_eq m c 8))),
      (((h.1.1 c).1 9).trans (((dats m 0 c).arrAt_in 9 rfl _).trans (A_eq m c 9)))⟩, h.2⟩) (run_launch m ρ)

end Cert.KernelIdeal.Hand

end
-- ==== Proof.Frames.lean ====
/-
  The frames: the kernel's, with and without its named constant, off the one run of Launch.lean; and the reference's.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Proof

open Idealize.ShloMosaic Idealize.SL.Sem

/-- The kernel with its named constant terminates with its arguments as they were. -/
theorem frame_kernelIdeal : Cert.quiescent_KernelIdeal := fun m ρ _ =>
  (θ_run Cert.KernelIdeal.defs _ _).mono (fun _ h => ⟨fun c => (h.1 c).2, h.2⟩) (Cert.KernelIdeal.Hand.run_main (F := Ideal) m ρ)

/-- At the float bit patterns a named constant is the pattern the kernel spells. -/
local instance namedBits : Named Bits := ⟨fun _ _ {φ} bits => Scalar.ofBits φ bits⟩

/-- The two programs' kernels are one function at the patterns. -/
theorem kernel_eq : Cert.Kernel.cc0__fused_mlp_kernel (F := Bits) = Cert.KernelIdeal.cc0__fused_mlp_kernel (F := Bits) := rfl

/-- So are their body tables. -/
theorem defs₀_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => exact congrArg (fun f => f (Memref.whole Cert.Kernel.main_arg0) (Memref.isWhole_whole _)
      (Cert.Kernel.win0_0.stage (s 0)) (Cert.Kernel.Facts₀.hstage0_0 0) (Cert.Kernel.win0_1.stage (s 1)) (Cert.Kernel.Facts₀.hstage0_1 0) (Cert.Kernel.win0_2.stage (s 2)) (Cert.Kernel.Facts₀.hstage0_2 0)
      (Cert.Kernel.win0_3.stage (s 3)) (Cert.Kernel.Facts₀.hstage0_3 0) (Cert.Kernel.win0_4.stage (s 4)) (Cert.Kernel.Facts₀.hstage0_4 0) (Cert.Kernel.win0_5.stage (s 5)) (Cert.Kernel.Facts₀.hstage0_5 0)
      (Cert.Kernel.win0_6.stage (s 6)) (Cert.Kernel.Facts₀.hstage0_6 0) (Cert.Kernel.win0_7.stage (s 7)) (Cert.Kernel.Facts₀.hstage0_7 0) (Cert.Kernel.win0_8.stage (s 8)) (Cert.Kernel.Facts₀.hstage0_8 0)
      (Cert.Kernel.win0_9.stage (s 9)) (Cert.Kernel.Facts₀.hstage0_9 0)
      (Memref.whole Cert.Kernel.main_v0) (Memref.isWhole_whole _) (Memref.whole Cert.Kernel.cc0_scratch0) (Memref.isWhole_whole _)
      (Memref.whole Cert.Kernel.cc0_scratch1) (Memref.isWhole_whole _) (Memref.whole Cert.Kernel.cc0_scratch2) (Memref.isWhole_whole _)
      Cert.Kernel.cc0_scratch3 Cert.Kernel.cc0_scratch4) kernel_eq
  | ⟨_ + 1, h⟩, _ => exact absurd h (Nat.not_lt.2 (Nat.le_add_left _ _))

/-- And their tables of definitions. -/
theorem defs_eq : Cert.Kernel.defs (F := Bits) = Cert.KernelIdeal.defs (F := Bits) := by
  unfold Cert.Kernel.defs Cert.KernelIdeal.defs
  exact congrArg (Pipeline.defs _) defs₀_eq

/-- The kernel as written terminates with its arguments as they were: its text at the patterns is the other program's. -/
theorem frame_kernel : Cert.quiescent_Kernel := fun m ρ _ =>
  (congrArg (fun d => θ_run d (onTc (τ := Cert.Kernel.τ) (Cert.Kernel.main (F := Bits))) ⟨m, fun _ => 0, ρ⟩ _) defs_eq).mpr
    ((θ_run Cert.KernelIdeal.defs _ _).mono (fun _ h => ⟨fun c => (h.1 c).2, h.2⟩) (Cert.KernelIdeal.Hand.run_main (F := Bits) m ρ))

/-- The reference terminates with its arguments as they were. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Naming the constant replaces a float that rounds the named real. -/
theorem preserves : Cert.preserves_Kernel_KernelIdeal :=
  IdealRules.named_const.statement Cert.KernelIdeal.κ "inv_n" .f32 0x38D1B717#32 ((1 / 10000 : ℝ) : EReal) rfl

end Cert.Proof

end
-- ==== Proof.ReadKernel.lean ====
/-
  The kernel's values read at an index, over the extended reals: each definition of Blocks.lean as a sum or a product of the
  entries of what it takes.
-/
module

public import proofs.«01_k».proof.Proof.Blocks
public import Idealize.ShloMosaic.Lib.Pointwise

@[expose] public section

noncomputable section

namespace Cert.KernelIdeal.Hand

open Cert.KernelIdeal Cert.KernelIdeal.Gen
open Idealize.ShloMosaic

/-- An entry of a block's Gram matrix is the sum over the block's rows of the product of two of its columns. -/
theorem gramB_at (X : FVec Ideal S2000x128 .f32) (f g : Fin 128) :
    gramB (F := Ideal) X (ix2 f g) = ∑ i : Fin 2000, X (ix2 i f) * X (ix2 i g) := by
  pointwise [gramB]

/-- A block's column sums. -/
theorem colsB_at (X : FVec Ideal S2000x128 .f32) (f : Fin 128) :
    colsB (F := Ideal) X (ix2 (0 : Fin 1) f) = ∑ i : Fin 2000, X (ix2 i f) := by
  pointwise [colsB]

/-- The mean of the first layer's columns. -/
theorem mean1_at (C : FVec Ideal S1x128 .f32) (w : FVec Ideal S128x512 .f32) (j : Fin 512) :
    mean1 (F := Ideal) C w (ix2 (0 : Fin 1) j) = (∑ f : Fin 128, C (ix2 (0 : Fin 1) f) * w (ix2 f j)) * invN := by
  pointwise [mean1]

/-- The mean of the squares of the first layer's columns. -/
theorem msq1_at (S : FVec Ideal S128x128 .f32) (w : FVec Ideal S128x512 .f32) (j : Fin 512) :
    msq1 (F := Ideal) S w (ix2 (0 : Fin 1) j)
      = (∑ f : Fin 128, w (ix2 f j) * ∑ g : Fin 128, S (ix2 f g) * w (ix2 g j)) * invN := by
  pointwise [msq1]

/-- A batch norm's scale. -/
theorem scaleOf_at (mu ms : FVec Ideal S1x512 .f32) (g : FVec Ideal S512 .f32) (j : Fin 512) :
    scaleOf (F := Ideal) mu ms g (ix2 (0 : Fin 1) j)
      = g (ix1 j) * Ideal.rsqrt (ms (ix2 (0 : Fin 1) j) - mu (ix2 (0 : Fin 1) j) * mu (ix2 (0 : Fin 1) j) + Ideal.ofBits .f32 0x3727C5AC#32) := by
  pointwise [scaleOf]

/-- A batch norm's shift. -/
theorem shiftOf_at (mu sc : FVec Ideal S1x512 .f32) (be : FVec Ideal S512 .f32) (j : Fin 512) :
    shiftOf (F := Ideal) mu sc be (ix2 (0 : Fin 1) j) = be (ix1 j) - mu (ix2 (0 : Fin 1) j) * sc (ix2 (0 : Fin 1) j) := by
  pointwise [shiftOf]

/-- One block of the second layer, before its batch norm. -/
theorem hidB_at (w1 : FVec Ideal S128x512 .f32) (sc sh : FVec Ideal S1x512 .f32) (w2 : FVec Ideal S512x512 .f32)
    (X : FVec Ideal S2000x128 .f32) (i : Fin 2000) (j : Fin 512) :
    hidB (F := Ideal) w1 sc sh w2 X (ix2 i j)
      = ∑ l : Fin 512, max ((∑ f : Fin 128, X (ix2 i f) * (w1 (ix2 f l) * sc (ix2 (0 : Fin 1) l))) + sh (ix2 (0 : Fin 1) l)) 0
          * w2 (ix2 l j) := by
  pointwise [hidB]

/-- The column sums of one block of the second layer. -/
theorem colsH_at (H : FVec Ideal S2000x512 .f32) (j : Fin 512) :
    colsH (F := Ideal) H (ix2 (0 : Fin 1) j) = ∑ i : Fin 2000, H (ix2 i j) := by
  pointwise [colsH]

/-- The third layer's weights, scaled. -/
theorem foldW_at (sc : FVec Ideal S1x512 .f32) (wf1 : FVec Ideal S512x128 .f32) (q : Fin 512) (l : Fin 128) :
    foldW (F := Ideal) sc wf1 (ix2 q l) = wf1 (ix2 q l) * sc (ix2 (0 : Fin 1) q) := by
  pointwise [foldW]

/-- The third layer's bias, with the shift folded in. -/
theorem foldB_at (sh : FVec Ideal S1x512 .f32) (wf1 : FVec Ideal S512x128 .f32) (bf1 : FVec Ideal S128 .f32) (l : Fin 128) :
    foldB (F := Ideal) sh wf1 bf1 (ix2 (0 : Fin 1) l) = (∑ q : Fin 512, sh (ix2 (0 : Fin 1) q) * wf1 (ix2 q l)) + bf1 (ix1 l) := by
  pointwise [foldB]

/-- One block of the result: of the last product's 128 columns the first ten. -/
theorem outB_at (w3 : FVec Ideal S512x128 .f32) (b3 : FVec Ideal S1x128 .f32) (w4 : FVec Ideal S128x128 .f32) (bf2 : FVec Ideal S10 .f32)
    (H : FVec Ideal S2000x512 .f32) (i : Fin 2000) (j : Fin 10) :
    outB (F := Ideal) w3 b3 w4 bf2 H (ix2 i j)
      = (∑ l : Fin 128, max ((∑ q : Fin 512, H (ix2 i q) * w3 (ix2 q l)) + b3 (ix2 (0 : Fin 1) l)) 0
          * w4 (ix2 l (⟨j.val, by omega⟩ : Fin 128))) + bf2 (ix1 j) := by
  pointwise [outB]

/-- The padded weights' first ten columns are the weights. -/
theorem padW_at (wf2 : FVec Ideal S128x10 .f32) (l : Fin 128) (j : Fin 10) :
    padW (F := Ideal) wf2 (ix2 l (⟨j.val, by omega⟩ : Fin 128)) = wf2 (ix2 l j) := by
  pointwise [padW]

/-- The mean over all rows of five blocks. -/
theorem mean2_at (H : Fin 5 → FVec Ideal S2000x512 .f32) (j : Fin 512) :
    mean2 (F := Ideal) H (ix2 (0 : Fin 1) j) = (∑ k : Fin 5, ∑ i : Fin 2000, H k (ix2 i j)) * invN := by
  rw [Fin.sum_univ_five]
  pointwise [mean2, colsH]

/-- The Gram matrix of all rows. -/
theorem gram_at (X : Fin 5 → FVec Ideal S2000x128 .f32) (f g : Fin 128) :
    gram (F := Ideal) X (ix2 f g) = ∑ k : Fin 5, ∑ i : Fin 2000, X k (ix2 i f) * X k (ix2 i g) := by
  rw [Fin.sum_univ_five]
  pointwise [gram, gramB]

/-- The column sums of all rows. -/
theorem cols_at (X : Fin 5 → FVec Ideal S2000x128 .f32) (f : Fin 128) :
    cols (F := Ideal) X (ix2 (0 : Fin 1) f) = ∑ k : Fin 5, ∑ i : Fin 2000, X k (ix2 i f) := by
  rw [Fin.sum_univ_five]
  pointwise [cols, colsB]

end Cert.KernelIdeal.Hand

end
-- ==== Proof.Consts.lean ====
/-
  The constants of the two programs over the extended reals.
-/
module

public import proofs.«01_k».proof.Defs
public import proofs.«01_k».proof.Proof.Blocks

@[expose] public section

noncomputable section

namespace Cert.Math

open Idealize.ShloMosaic

/-- The number of rows, as the reference writes it. -/
theorem ten4 : Ideal.ofBits .f32 0x461C4000#32 = ((10000 : ℝ) : EReal) := by
  simp [Ideal.ofBits, Ideal.ieee, -EReal.coe_mul]; norm_num
/-- The kernel's named reciprocal of the number of rows. -/
theorem invN_eq : Cert.KernelIdeal.Hand.invN (F := Ideal) = ((1 / 10000 : ℝ) : EReal) :=
  IdealRules.named_const.ideal_named_scalar _ _ _ _ rfl
/-- The batch norm's epsilon is a positive real. -/
theorem eps_pos : ∃ e : ℝ, 0 < e ∧ Ideal.ofBits .f32 0x3727C5AC#32 = (e : EReal) := by
  refine ⟨_, ?_, by simp [Ideal.ofBits, Ideal.ieee, -EReal.coe_mul]; rfl⟩
  norm_num
/-- The bound the precondition compares with is infinity. -/
theorem inf_eq : Ideal.ofBits .f32 0x7F800000#32 = ⊤ := by
  simp [Ideal.ofBits, Ideal.ieee]
/-- The integer zero, converted. -/
theorem zero_conv : (FloatOps.sitofp (F := Ideal) .f32 (0#32 : BitVec 32)) = (0 : EReal) := by
  simp [FloatOps.sitofp]

end Cert.Math

end
-- ==== Proof.Algebra.lean ====
/-
  The mathematics of a batch norm over 10000 rows, over the reals and the extended reals: the variance is the mean of the squares
  less the square of the mean, whatever constant is added to the column; and the norm is a scale and a shift.
-/
module

public import proofs.«01_k».proof.Proof.Consts

@[expose] public section

noncomputable section

namespace Cert.Math

open Idealize.ShloMosaic

/-- The batch norm's epsilon, as a real. -/
def epsR : ℝ := (Ideal.ofBits .f32 0x3727C5AC#32).toReal
/-- The literal is this real. -/
theorem eps_eq : Ideal.ofBits .f32 0x3727C5AC#32 = (epsR : EReal) := by
  obtain ⟨e, _, h⟩ := eps_pos
  rw [epsR, h, EReal.toReal_coe]
/-- It is positive. -/
theorem epsR_pos : 0 < epsR := by
  obtain ⟨e, he, h⟩ := eps_pos
  rw [epsR, h, EReal.toReal_coe]
  exact he

/-- A column's mean, as the reference takes it. -/
def meanOf (h : Fin 10000 → EReal) : EReal := Ideal.div (∑ i, h i) ((10000 : ℝ) : EReal)
/-- A column's variance, as the reference takes it. -/
def varOf (h : Fin 10000 → EReal) : EReal :=
  Ideal.div (∑ i, (h i - meanOf h) * (h i - meanOf h)) ((10000 : ℝ) : EReal)
/-- A column's batch norm, as the reference takes it. -/
def bnOf (h : Fin 10000 → EReal) (g be : EReal) (i : Fin 10000) : EReal :=
  Ideal.div (h i - meanOf h) (Ideal.sqrt (varOf h + epsR)) * g + be

/-- A column's mean. -/
def mR (y : Fin 10000 → ℝ) : ℝ := (∑ i, y i) * (1 / 10000)
/-- The mean of a column's squares. -/
def qR (y : Fin 10000 → ℝ) : ℝ := (∑ i, y i * y i) * (1 / 10000)
/-- A column's scale: gamma over the standard deviation. -/
def sR (y : Fin 10000 → ℝ) (g : ℝ) : ℝ := g * (Real.sqrt (qR y - mR y * mR y + epsR))⁻¹

/-- A sum of reals in the extended reals is the sum of the reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The mean of the squared distances to the mean, of a column with a constant added, is the mean of the squares less the square of the
    mean. -/
theorem var_eq (y : Fin 10000 → ℝ) (b : ℝ) :
    (∑ i, (y i + b - (mR y + b)) * (y i + b - (mR y + b))) * (1 / 10000) = qR y - mR y * mR y := by
  have h : ∀ i, (y i + b - (mR y + b)) * (y i + b - (mR y + b)) = y i * y i + ((-2 * mR y) * y i + mR y * mR y) := fun i => by ring
  have hs : ∑ i, y i = 10000 * mR y := by rw [mR]; ring
  have hc : ∑ _i : Fin 10000, mR y * mR y = 10000 * (mR y * mR y) := by
    rw [Finset.sum_const, Finset.card_univ, Fintype.card_fin, nsmul_eq_mul]; norm_num
  rw [Finset.sum_congr rfl fun i _ => h i, Finset.sum_add_distrib, Finset.sum_add_distrib, ← Finset.mul_sum, hs, hc, qR]
  ring
/-- So it is not negative. -/
theorem var_nonneg (y : Fin 10000 → ℝ) : 0 ≤ qR y - mR y * mR y := by
  rw [← var_eq y 0]
  exact mul_nonneg (Finset.sum_nonneg fun i _ => mul_self_nonneg _) (by norm_num)
/-- With epsilon added it is positive. -/
theorem var_pos (y : Fin 10000 → ℝ) : 0 < qR y - mR y * mR y + epsR := add_pos_of_nonneg_of_pos (var_nonneg y) epsR_pos

/-- The kernel's scale: gamma times the reciprocal square root of the variance plus epsilon. -/
theorem scale_eq (y : Fin 10000 → ℝ) (g : ℝ) :
    (g : EReal) * Ideal.rsqrt ((qR y : EReal) - (mR y : EReal) * (mR y : EReal) + epsR) = (sR y g : EReal) := by
  rw [← EReal.coe_mul, ← EReal.coe_sub, ← EReal.coe_add, Ideal.rsqrt_coe, if_neg (not_lt.mpr (var_pos y).le),
    if_neg (var_pos y).ne', ← EReal.coe_mul, sR]

/-- The reference's mean of a real column with a constant added. -/
theorem meanOf_eq (y : Fin 10000 → ℝ) (b : ℝ) : meanOf (fun i => (y i : EReal) + b) = ((mR y + b : ℝ) : EReal) := by
  rw [meanOf, Finset.sum_congr rfl fun i _ => (EReal.coe_add (y i) b).symm, sum_coe, Ideal.div_coe (by norm_num), ← EReal.coe_mul,
    Finset.sum_add_distrib, Finset.sum_const, Finset.card_univ, Fintype.card_fin, nsmul_eq_mul, mR]
  congr 1
  push_cast
  ring
/-- The reference's variance of it. -/
theorem varOf_eq (y : Fin 10000 → ℝ) (b : ℝ) : varOf (fun i => (y i : EReal) + b) = ((qR y - mR y * mR y : ℝ) : EReal) := by
  have h : ∀ i, ((y i : EReal) + b - ((mR y + b : ℝ) : EReal)) * ((y i : EReal) + b - ((mR y + b : ℝ) : EReal))
      = (((y i + b - (mR y + b)) * (y i + b - (mR y + b)) : ℝ) : EReal) := fun i => by
    rw [← EReal.coe_add, ← EReal.coe_sub, ← EReal.coe_mul]
  rw [varOf, meanOf_eq, Finset.sum_congr rfl fun i _ => h i, sum_coe, Ideal.div_coe (by norm_num), ← EReal.coe_mul, var_eq]
/-- The reference's batch norm of it: the distance to the mean, scaled, and beta added. The constant has no effect. -/
theorem bnOf_eq (y : Fin 10000 → ℝ) (b g : ℝ) (be : EReal) (i : Fin 10000) :
    bnOf (fun i => (y i : EReal) + b) g be i = (((y i - mR y) * sR y g : ℝ) : EReal) + be := by
  have hs : Real.sqrt (qR y - mR y * mR y + epsR) ≠ 0 := (Real.sqrt_pos.mpr (var_pos y)).ne'
  rw [bnOf, meanOf_eq, varOf_eq, ← EReal.coe_add, ← EReal.coe_sub, ← EReal.coe_add, Ideal.sqrt_coe, if_neg (not_lt.mpr (var_pos y).le),
    Ideal.div_coe hs, ← EReal.coe_mul, ← EReal.coe_mul, sR]
  congr 2
  ring

/-- Beta with the scaled mean taken off it, added to a scaled entry: the scaled distance with beta added. -/
theorem shift_eq (a m s : ℝ) (be : EReal) : ((a * s : ℝ) : EReal) + (be - (m : EReal) * (s : EReal)) = (((a - m) * s : ℝ) : EReal) + be := by
  rw [← EReal.coe_mul]
  induction be using EReal.rec with
  | bot => simp
  | top => rw [EReal.top_sub_coe, EReal.coe_add_top, EReal.coe_add_top]
  | coe r => rw [← EReal.coe_sub, ← EReal.coe_add, ← EReal.coe_add]; congr 1; ring

/-- A real plus anything, times a real, is the sum of the products. -/
theorem add_mul_coe (r w : ℝ) (b : EReal) : ((r : EReal) + b) * (w : EReal) = ((r * w : ℝ) : EReal) + b * (w : EReal) := by
  induction b using EReal.rec with
  | bot =>
    rcases lt_trichotomy w 0 with h | h | h
    · rw [EReal.add_bot, EReal.bot_mul_coe_of_neg h, EReal.coe_add_top]
    · subst h; simp
    · rw [EReal.add_bot, EReal.bot_mul_coe_of_pos h, EReal.add_bot]
  | top =>
    rcases lt_trichotomy w 0 with h | h | h
    · rw [EReal.coe_add_top, EReal.top_mul_coe_of_neg h, EReal.add_bot]
    · subst h; simp
    · rw [EReal.coe_add_top, EReal.top_mul_coe_of_pos h, EReal.coe_add_top]
  | coe q => rw [← EReal.coe_add, ← EReal.coe_mul, ← EReal.coe_mul, ← EReal.coe_add]; congr 1; ring

/-- One term of the third layer: the entry times the scaled weight, and the shift times the weight. -/
theorem fold_term (y m s w : ℝ) (be : EReal) :
    (y : EReal) * ((w : EReal) * (s : EReal)) + (be - (m : EReal) * (s : EReal)) * (w : EReal)
      = ((((y - m) * s : ℝ) : EReal) + be) * (w : EReal) := by
  have h : be - (m : EReal) * (s : EReal) = ((-(m * s) : ℝ) : EReal) + be := by
    rw [← EReal.coe_mul, sub_eq_add_neg, ← EReal.coe_neg, add_comm]
  rw [h, add_mul_coe, add_mul_coe, ← add_assoc, ← EReal.coe_mul, ← EReal.coe_mul, ← EReal.coe_add]
  congr 2
  ring
/-- The third layer: with the second batch norm folded in, it is the layer of the norm. -/
theorem fold_sum {ι : Type} [Fintype ι] (y m s w : ι → ℝ) (be : ι → EReal) (bf : EReal) :
    (∑ q, (y q : EReal) * ((w q : EReal) * (s q : EReal))) + ((∑ q, (be q - (m q : EReal) * (s q : EReal)) * (w q : EReal)) + bf)
      = (∑ q, ((((y q - m q) * s q : ℝ) : EReal) + be q) * (w q : EReal)) + bf := by
  rw [← add_assoc, ← Finset.sum_add_distrib, Finset.sum_congr rfl fun q _ => fold_term (y q) (m q) (s q) (w q) (be q)]

/-- The mean of the products' column is the product of the column sums. -/
theorem mean_fold (x : Fin 10000 → Fin 128 → ℝ) (w : Fin 128 → ℝ) :
    (∑ f, (∑ i, x i f) * w f) * (1 / 10000) = mR fun i => ∑ f, x i f * w f := by
  rw [mR, Finset.sum_comm]
  simp only [Finset.sum_mul]
/-- The mean of its squares is the Gram matrix's quadratic form. -/
theorem msq_fold (x : Fin 10000 → Fin 128 → ℝ) (w : Fin 128 → ℝ) :
    (∑ f, w f * ∑ g, (∑ i, x i f * x i g) * w g) * (1 / 10000) = qR fun i => ∑ f, x i f * w f := by
  rw [qR]
  refine congrArg (fun t : ℝ => t * (1 / 10000)) ?_
  have h : ∀ i, (∑ f, x i f * w f) * (∑ f, x i f * w f) = ∑ f, ∑ g, x i f * w f * (x i g * w g) := fun i => by
    rw [Finset.sum_mul]; exact Finset.sum_congr rfl fun f _ => Finset.mul_sum _ _ _
  rw [Finset.sum_congr rfl fun i _ => h i, Finset.sum_comm]
  refine Finset.sum_congr rfl fun f _ => ?_
  rw [Finset.sum_comm, Finset.mul_sum]
  refine Finset.sum_congr rfl fun g _ => ?_
  rw [Finset.sum_mul, Finset.mul_sum]
  exact Finset.sum_congr rfl fun i _ => by ring

/-- Row `i` of block `k`. -/
def row (k : Fin 5) (i : Fin 2000) : Fin 10000 := ⟨2000 * k.val + i.val, by omega⟩
/-- A sum over the rows is the sum over the blocks of the sums over their rows. -/
theorem sum_row {M : Type} [AddCommMonoid M] (z : Fin 10000 → M) : ∑ k : Fin 5, ∑ i : Fin 2000, z (row k i) = ∑ i, z i := by
  rw [← Finset.sum_product', Finset.univ_product_univ]
  refine Fintype.sum_equiv (finProdFinEquiv (m := 5) (n := 2000)) _ _ fun p => congrArg z (Fin.ext ?_)
  show 2000 * p.1.val + p.2.val = p.2.val + 2000 * p.1.val
  omega

end Cert.Math

end
-- ==== Proof.ReadReference.lean ====
/-
  The reference's values read at an index, over the extended reals: two layers with their batch norms, and two more.
-/
module

public import proofs.«01_k».proof.Proof.Gen.ReferenceIdeal.Read
public import proofs.«01_k».proof.Proof.Algebra
public import Idealize.ShloMosaic.Lib.Pointwise

@[expose] public section

noncomputable section

namespace Cert.ReferenceIdeal.Read

open Cert.ReferenceIdeal Cert.ReferenceIdeal.Gen Cert.Math
open Idealize.ShloMosaic

variable (x0 : FVec Ideal S10000x128 .f32) (x3 : FVec Ideal S128x512 .f32) (x4 x5 x6 : FVec Ideal S512 .f32)
  (x7 : FVec Ideal S512x512 .f32) (x8 x9 x10 : FVec Ideal S512 .f32) (x11 : FVec Ideal S512x128 .f32) (x12 : FVec Ideal S128 .f32)
  (x13 : FVec Ideal S128x10 .f32) (x14 : FVec Ideal S10 .f32)

/-- The variance's denominator is the number of rows. -/
theorem den_eq : Ideal.ofBits .f32 0x461C4000#32 - FloatOps.sitofp (F := Ideal) .f32 (0#32 : BitVec 32) = ((10000 : ℝ) : EReal) := by
  rw [zero_conv, ten4]
  exact sub_zero _
/-- The denominator is positive. -/
theorem den_pos : (0 : EReal) < ((10000 : ℝ) : EReal) := by exact_mod_cast (by norm_num : (0 : ℝ) < 10000)

/-- The first layer, before its batch norm. -/
theorem v3_at (i : Fin 10000) (j : Fin 512) :
    val_main_v3 (F := Ideal) x0 x3 x4 (ix2 i j) = (∑ f : Fin 128, x0 (ix2 i f) * x3 (ix2 f j)) + x4 (ix1 j) := by
  pointwise [val_main_v3, val_main_v2, val_main_v1, val_main_v0]

/-- The first layer's column means. -/
theorem v7_at (j : Fin 512) :
    val_main_v7 (F := Ideal) x0 x3 x4 (ix2 (0 : Fin 1) j) = meanOf fun i => val_main_v3 (F := Ideal) x0 x3 x4 (ix2 i j) := by
  pointwise [meanOf, ← ten4, val_main_v7, val_main_v6, val_main_v5, val_main_v4, val_main_cst, val_main_cst_0]
/-- The first layer's column variances: the branch taken is the one with a positive denominator. -/
theorem v8_at (j : Fin 512) :
    val_main_v8 (F := Ideal) x0 x3 x4 (ix2 (0 : Fin 1) j) = varOf fun i => val_main_v3 (F := Ideal) x0 x3 x4 (ix2 i j) := by
  pointwise [val_main_v8, val_main_call0_v13, val_main_call0_v12, val_main_call0_v8, val_main_call0_cst_3, val_main_call0_v7,
    val_main_call0_cst_1, val_main_c, val_main_call0_v11, val_main_call0_v10, val_main_call0_v9, val_main_call0_cst_2,
    val_main_call0_v6, val_main_call0_v5, val_main_call0_v4, val_main_call0_v3, val_main_call0_v2, val_main_call0_v1,
    val_main_call0_v0, val_main_call0_cst, val_main_call0_cst_0]
  rw [den_eq, if_pos den_pos, ten4]
  rfl
/-- The first layer's batch norm. -/
theorem v21_at (i : Fin 10000) (j : Fin 512) :
    val_main_v21 (F := Ideal) x0 x3 x4 x5 x6 (ix2 i j)
      = bnOf (fun i => val_main_v3 (F := Ideal) x0 x3 x4 (ix2 i j)) (x5 (ix1 j)) (x6 (ix1 j)) i := by
  rw [bnOf, ← v7_at, ← v8_at, ← eps_eq]
  pointwise [val_main_v21, val_main_v20, val_main_v19, val_main_v18, val_main_v17, val_main_v16, val_main_v15, val_main_v14, val_main_v13, val_main_v12, val_main_v11, val_main_v10, val_main_v9, val_main_cst_1]

/-- The second layer, before its batch norm. -/
theorem v26_at (i : Fin 10000) (j : Fin 512) :
    val_main_v26 (F := Ideal) x0 x3 x4 x5 x6 x7 x8 (ix2 i j)
      = (∑ l : Fin 512, max (val_main_v21 (F := Ideal) x0 x3 x4 x5 x6 (ix2 i l)) 0 * x7 (ix2 l j)) + x8 (ix1 j) := by
  pointwise [val_main_v26, val_main_v25, val_main_v24, val_main_v23, val_main_v22, val_main_call1_v0, val_main_call1_cst]

/-- The second layer's column means. -/
theorem v30_at (j : Fin 512) :
    val_main_v30 (F := Ideal) x0 x3 x4 x5 x6 x7 x8 (ix2 (0 : Fin 1) j) = meanOf fun i => val_main_v26 (F := Ideal) x0 x3 x4 x5 x6 x7 x8 (ix2 i j) := by
  pointwise [meanOf, ← ten4, val_main_v30, val_main_v29, val_main_v28, val_main_v27, val_main_cst_2, val_main_cst_3]
/-- The second layer's column variances: the branch taken is the one with a positive denominator. -/
theorem v31_at (j : Fin 512) :
    val_main_v31 (F := Ideal) x0 x3 x4 x5 x6 x7 x8 (ix2 (0 : Fin 1) j) = varOf fun i => val_main_v26 (F := Ideal) x0 x3 x4 x5 x6 x7 x8 (ix2 i j) := by
  pointwise [val_main_v31, val_main_call2_v13, val_main_call2_v12, val_main_call2_v8, val_main_call2_cst_3, val_main_call2_v7,
    val_main_call2_cst_1, val_main_c_4, val_main_call2_v11, val_main_call2_v10, val_main_call2_v9, val_main_call2_cst_2,
    val_main_call2_v6, val_main_call2_v5, val_main_call2_v4, val_main_call2_v3, val_main_call2_v2, val_main_call2_v1,
    val_main_call2_v0, val_main_call2_cst, val_main_call2_cst_0]
  rw [den_eq, if_pos den_pos, ten4]
  rfl
/-- The second layer's batch norm. -/
theorem v44_at (i : Fin 10000) (j : Fin 512) :
    val_main_v44 (F := Ideal) x0 x3 x4 x5 x6 x7 x8 x9 x10 (ix2 i j)
      = bnOf (fun i => val_main_v26 (F := Ideal) x0 x3 x4 x5 x6 x7 x8 (ix2 i j)) (x9 (ix1 j)) (x10 (ix1 j)) i := by
  rw [bnOf, ← v30_at, ← v31_at, ← eps_eq]
  pointwise [val_main_v44, val_main_v43, val_main_v42, val_main_v41, val_main_v40, val_main_v39, val_main_v38, val_main_v37, val_main_v36, val_main_v35, val_main_v34, val_main_v33, val_main_v32, val_main_cst_5]

/-- The result: the third and the fourth layer, from the second's batch norm. -/
theorem v53_at (i : Fin 10000) (j : Fin 10) :
    val_main_v53 (F := Ideal) x0 x3 x4 x5 x6 x7 x8 x9 x10 x11 x12 x13 x14 (ix2 i j)
      = (∑ l : Fin 128, max ((∑ q : Fin 512, val_main_v44 (F := Ideal) x0 x3 x4 x5 x6 x7 x8 x9 x10 (ix2 i q) * x11 (ix2 q l)) + x12 (ix1 l)) 0
          * x13 (ix2 l j)) + x14 (ix1 j) := by
  pointwise [val_main_v53, val_main_v52, val_main_v51, val_main_v50, val_main_v49, val_main_call3_v0, val_main_call3_cst, val_main_v48,
    val_main_v47, val_main_v46, val_main_v45]

end Cert.ReferenceIdeal.Read

end
-- ==== Proof.Equation.lean ====
/-
  The equation: at finite inputs the kernel's array is the reference's. The first layer's statistics come from the Gram matrix and
  the column sums, the second's from its blocks; each batch norm is the reference's, folded into the layer beside it.
-/
module

public import proofs.«01_k».proof.Proof.ReadKernel
public import proofs.«01_k».proof.Proof.ReadReference

@[expose] public section

noncomputable section

namespace Cert.Math

open Cert.KernelIdeal Cert.KernelIdeal.Gen Cert.KernelIdeal.Hand Cert.ReferenceIdeal.Read
open Idealize.ShloMosaic

variable (x0 : FVec Ideal S10000x128 .f32) (x3 : FVec Ideal S128x512 .f32) (x4 x5 x6 : FVec Ideal S512 .f32)
  (x7 : FVec Ideal S512x512 .f32) (x8 x9 x10 : FVec Ideal S512 .f32) (x11 : FVec Ideal S512x128 .f32) (x12 : FVec Ideal S128 .f32)
  (x13 : FVec Ideal S128x10 .f32) (x14 : FVec Ideal S10 .f32)

/-- An entry of a block of the features. -/
theorem rowsB_at (k : Fin 5) (i : Fin 2000) (f : Fin 128) : rowsB (F := Ideal) x0 k (ix2 i f) = x0 (ix2 (row k i) f) := rfl

section Layer1

variable (a0 : Fin 10000 → Fin 128 → ℝ) (a3 : Fin 128 → Fin 512 → ℝ) (a4 a5 : Fin 512 → ℝ)
  (h0 : ∀ i f, x0 (ix2 i f) = (a0 i f : EReal)) (h3 : ∀ f l, x3 (ix2 f l) = (a3 f l : EReal))
  (h4 : ∀ l, x4 (ix1 l) = (a4 l : EReal)) (h5 : ∀ l, x5 (ix1 l) = (a5 l : EReal))

/-- The first layer's products, as reals: row `i`, column `l`. -/
def lin (a0 : Fin 10000 → Fin 128 → ℝ) (a3 : Fin 128 → Fin 512 → ℝ) (l : Fin 512) (i : Fin 10000) : ℝ := ∑ f, a0 i f * a3 f l

include h0 h3 in
/-- The kernel's mean of a column of the first layer. -/
theorem mean1_val (l : Fin 512) : mean1 (F := Ideal) (cols (rowsB x0)) x3 (ix2 (0 : Fin 1) l) = (mR (lin a0 a3 l) : EReal) := by
  have hc : ∀ f, cols (F := Ideal) (rowsB x0) (ix2 (0 : Fin 1) f) = ((∑ i, a0 i f : ℝ) : EReal) := fun f => by
    rw [cols_at]
    simp only [rowsB_at, h0]
    rw [sum_row fun i => (a0 i f : EReal), sum_coe]
  rw [mean1_at, invN_eq]
  simp only [hc, h3, ← EReal.coe_mul]
  rw [sum_coe, ← EReal.coe_mul, mean_fold a0 fun f => a3 f l]
  rfl

include h0 h3 in
/-- The kernel's mean of its squares. -/
theorem msq1_val (l : Fin 512) : msq1 (F := Ideal) (gram (rowsB x0)) x3 (ix2 (0 : Fin 1) l) = (qR (lin a0 a3 l) : EReal) := by
  have hc : ∀ f g, gram (F := Ideal) (rowsB x0) (ix2 f g) = ((∑ i, a0 i f * a0 i g : ℝ) : EReal) := fun f g => by
    rw [gram_at]
    simp only [rowsB_at, h0, ← EReal.coe_mul]
    rw [sum_row fun i => ((a0 i f * a0 i g : ℝ) : EReal), sum_coe]
  rw [msq1_at, invN_eq]
  simp only [hc, h3, ← EReal.coe_mul, sum_coe]
  rw [msq_fold a0 fun f => a3 f l]
  rfl

include h0 h3 h5 in
/-- The kernel's first scale. -/
theorem sc1_val (l : Fin 512) : sc1 (F := Ideal) (rowsB x0) x3 x5 (ix2 (0 : Fin 1) l) = (sR (lin a0 a3 l) (a5 l) : EReal) := by
  rw [sc1, scaleOf_at, mean1_val x0 x3 a0 a3 h0 h3, msq1_val x0 x3 a0 a3 h0 h3, h5, eps_eq, scale_eq]

include h0 h3 h5 in
/-- The kernel's first layer, with its batch norm folded in. -/
theorem pre1_val (k : Fin 5) (i : Fin 2000) (l : Fin 512) :
    (∑ f : Fin 128, rowsB (F := Ideal) x0 k (ix2 i f) * (x3 (ix2 f l) * sc1 (F := Ideal) (rowsB x0) x3 x5 (ix2 (0 : Fin 1) l)))
        + sh1 (F := Ideal) (rowsB x0) x3 x5 x6 (ix2 (0 : Fin 1) l)
      = (((lin a0 a3 l (row k i) - mR (lin a0 a3 l)) * sR (lin a0 a3 l) (a5 l) : ℝ) : EReal) + x6 (ix1 l) := by
  rw [sh1, shiftOf_at, mean1_val x0 x3 a0 a3 h0 h3, sc1_val x0 x3 x5 a0 a3 a5 h0 h3 h5, ← shift_eq]
  congr 1
  simp only [rowsB_at, h0, h3, ← EReal.coe_mul, sum_coe]
  congr 1
  rw [lin, Finset.sum_mul]
  exact Finset.sum_congr rfl fun f _ => (mul_assoc _ _ _).symm

include h0 h3 h4 h5 in
/-- The reference's first layer, with its batch norm. -/
theorem v21_val (i : Fin 10000) (l : Fin 512) :
    val_main_v21 (F := Ideal) x0 x3 x4 x5 x6 (ix2 i l)
      = (((lin a0 a3 l i - mR (lin a0 a3 l)) * sR (lin a0 a3 l) (a5 l) : ℝ) : EReal) + x6 (ix1 l) := by
  have h : ∀ i, val_main_v3 (F := Ideal) x0 x3 x4 (ix2 i l) = (lin a0 a3 l i : EReal) + (a4 l : EReal) := fun i => by
    rw [v3_at, h4, lin, ← sum_coe]
    simp only [h0, h3, EReal.coe_mul]
  rw [v21_at, h5, funext h, bnOf_eq]

end Layer1

section Layer2

variable (y : Fin 512 → Fin 10000 → ℝ) (a8 a9 : Fin 512 → ℝ) (a11 : Fin 512 → Fin 128 → ℝ)
  (H : Fin 5 → FVec Ideal S2000x512 .f32)
  (hH : ∀ k i j, H k (ix2 i j) = (y j (row k i) : EReal))
  (h9 : ∀ l, x9 (ix1 l) = (a9 l : EReal)) (h11 : ∀ q l, x11 (ix2 q l) = (a11 q l : EReal))

include hH in
/-- The kernel's mean of a column of the second layer. -/
theorem mean2_val (j : Fin 512) : mean2 (F := Ideal) H (ix2 (0 : Fin 1) j) = (mR (y j) : EReal) := by
  rw [mean2_at, invN_eq]
  simp only [hH]
  rw [sum_row fun i => (y j i : EReal), sum_coe, ← EReal.coe_mul, mR]

include hH in
/-- The kernel's mean of its squares. -/
theorem msq2_val (j : Fin 512) : mean2 (F := Ideal) (fun k => mulf (H k) (H k)) (ix2 (0 : Fin 1) j) = (qR (y j) : EReal) := by
  have h : ∀ k i, mulf (H k) (H k) (ix2 i j) = ((y j (row k i) * y j (row k i) : ℝ) : EReal) := fun k i => by
    show H k (ix2 i j) * H k (ix2 i j) = _
    rw [hH, EReal.coe_mul]
  rw [mean2_at, invN_eq]
  simp only [h]
  rw [sum_row fun i => ((y j i * y j i : ℝ) : EReal), sum_coe, ← EReal.coe_mul, qR]

include hH h9 in
/-- The kernel's second scale. -/
theorem sc2_val (j : Fin 512) : sc2 (F := Ideal) H x9 (ix2 (0 : Fin 1) j) = (sR (y j) (a9 j) : EReal) := by
  rw [sc2, scaleOf_at, mean2_val y H hH, msq2_val y H hH, h9, eps_eq, scale_eq]

include hH h9 h11 in
/-- The kernel's third layer, with the second batch norm folded in. -/
theorem pre3_val (k : Fin 5) (i : Fin 2000) (l : Fin 128) :
    (∑ q : Fin 512, H k (ix2 i q) * foldW (F := Ideal) (sc2 H x9) x11 (ix2 q l))
        + foldB (F := Ideal) (sh2 H x9 x10) x11 x12 (ix2 (0 : Fin 1) l)
      = (∑ q : Fin 512, ((((y q (row k i) - mR (y q)) * sR (y q) (a9 q) : ℝ) : EReal) + x10 (ix1 q)) * x11 (ix2 q l)) + x12 (ix1 l) := by
  have hs : ∀ q, sh2 (F := Ideal) H x9 x10 (ix2 (0 : Fin 1) q) = x10 (ix1 q) - (mR (y q) : EReal) * (sR (y q) (a9 q) : EReal) := fun q => by
    rw [sh2, shiftOf_at, mean2_val y H hH, sc2_val x9 y a9 H hH h9]
  rw [foldB_at]
  simp only [foldW_at, hs, sc2_val x9 y a9 H hH h9, hH, h11]
  exact fold_sum (fun q => y q (row k i)) (fun q => mR (y q)) (fun q => sR (y q) (a9 q)) (fun q => a11 q l) (fun q => x10 (ix1 q)) _

end Layer2

/-- The greater of zero and a real plus something that isn't infinity is a real. -/
theorem relu_coe (r : ℝ) (b : EReal) (hb : b ≠ ⊤) : ((max ((r : EReal) + b) 0).toReal : EReal) = max ((r : EReal) + b) 0 := by
  refine EReal.coe_toReal (fun h => ?_) (fun h => ?_)
  · rcases max_choice ((r : EReal) + b) 0 with e | e
    · rw [e] at h
      exact absurd h (EReal.add_ne_top (EReal.coe_ne_top r) hb)
    · rw [e] at h
      exact absurd h EReal.zero_ne_top
  · exact absurd (h ▸ le_max_right ((r : EReal) + b) 0) (by simp)

/-- Every row lies in a block. -/
theorem row_surj (i : Fin 10000) : ∃ k i', i = row k i' :=
  ⟨⟨i.val / 2000, by omega⟩, ⟨i.val % 2000, Nat.mod_lt _ (by omega)⟩, Fin.ext (by show i.val = 2000 * (i.val / 2000) + i.val % 2000; omega)⟩

/-- A row of the stacked array is the row of its block. -/
theorem stackB_at (R : Fin 5 → FVec Ideal S2000x10 .f32) (k : Fin 5) (i : Fin 2000) (j : Fin 10) :
    stackB (F := Ideal) R (ix2 (row k i) j) = R k (ix2 i j) := by
  have hk : (⟨(row k i).val / 2000, by have := (row k i).isLt; omega⟩ : Fin 5) = k := Fin.ext (by show (2000 * k.val + i.val) / 2000 = k.val; omega)
  have hi : (⟨(row k i).val % 2000, Nat.mod_lt _ (by omega)⟩ : Fin 2000) = i := Fin.ext (by show (2000 * k.val + i.val) % 2000 = i.val; omega)
  show R ⟨(row k i).val / 2000, _⟩ (ix2 ⟨(row k i).val % 2000, _⟩ j) = _
  rw [hk, hi]

/-- The kernel's result is the reference's, at finite features, weights, biases and gammas before the last two layers, and a first beta that
    isn't infinity. -/
theorem result_eq (a0 : Fin 10000 → Fin 128 → ℝ) (a3 : Fin 128 → Fin 512 → ℝ) (a4 a5 : Fin 512 → ℝ) (a7 : Fin 512 → Fin 512 → ℝ)
    (a8 a9 : Fin 512 → ℝ) (a11 : Fin 512 → Fin 128 → ℝ)
    (h0 : ∀ i f, x0 (ix2 i f) = (a0 i f : EReal)) (h3 : ∀ f l, x3 (ix2 f l) = (a3 f l : EReal))
    (h4 : ∀ l, x4 (ix1 l) = (a4 l : EReal)) (h5 : ∀ l, x5 (ix1 l) = (a5 l : EReal)) (h6 : ∀ l, x6 (ix1 l) ≠ ⊤)
    (h7 : ∀ l j, x7 (ix2 l j) = (a7 l j : EReal)) (h8 : ∀ l, x8 (ix1 l) = (a8 l : EReal)) (h9 : ∀ l, x9 (ix1 l) = (a9 l : EReal))
    (h11 : ∀ q l, x11 (ix2 q l) = (a11 q l : EReal)) :
    stackB (F := Ideal) (res (F := Ideal) (rowsB (F := Ideal) x0) x3 x5 x6 x7 x9 x10 x11 x12 x13 x14)
      = val_main_v53 (F := Ideal) x0 x3 x4 x5 x6 x7 x8 x9 x10 x11 x12 x13 x14 := by
  -- the second layer's rectified inputs and its products, as reals
  let n1 : Fin 512 → Fin 10000 → ℝ := fun l i =>
    (max ((((lin a0 a3 l i - mR (lin a0 a3 l)) * sR (lin a0 a3 l) (a5 l) : ℝ) : EReal) + x6 (ix1 l)) 0).toReal
  have hn : ∀ l i, max ((((lin a0 a3 l i - mR (lin a0 a3 l)) * sR (lin a0 a3 l) (a5 l) : ℝ) : EReal) + x6 (ix1 l)) 0 = (n1 l i : EReal) :=
    fun l i => (relu_coe _ _ (h6 l)).symm
  let y : Fin 512 → Fin 10000 → ℝ := fun j i => ∑ l, n1 l i * a7 l j
  have hH : ∀ k i j, hid (F := Ideal) (rowsB x0) x3 x5 x6 x7 k (ix2 i j) = (y j (row k i) : EReal) := fun k i j => by
    rw [hid, hidB_at]
    simp only [pre1_val x0 x3 x5 x6 a0 a3 a5 h0 h3 h5, hn, h7, ← EReal.coe_mul, sum_coe]
    rfl
  have hr : ∀ j i, val_main_v26 (F := Ideal) x0 x3 x4 x5 x6 x7 x8 (ix2 i j) = (y j i : EReal) + (a8 j : EReal) := fun j i => by
    rw [v26_at, h8]
    simp only [v21_val x0 x3 x4 x5 x6 a0 a3 a4 a5 h0 h3 h4 h5, hn, h7, ← EReal.coe_mul, sum_coe]
    rfl
  have h44 : ∀ i q, val_main_v44 (F := Ideal) x0 x3 x4 x5 x6 x7 x8 x9 x10 (ix2 i q)
      = (((y q i - mR (y q)) * sR (y q) (a9 q) : ℝ) : EReal) + x10 (ix1 q) := fun i q => by
    rw [v44_at, h9, funext (hr q), bnOf_eq]
  funext z
  obtain ⟨i, j, rfl⟩ : ∃ (i : Fin 10000) (j : Fin 10), z = ix2 i j := ⟨z 0, z 1, eq_ix2 z⟩
  obtain ⟨k, i, rfl⟩ := row_surj i
  rw [stackB_at, v53_at, res, resOf, outB_at]
  simp only [padW_at, h44, pre3_val x9 x10 x11 x12 y a9 a11 _ hH h9 h11]

end Cert.Math

end
-- ==== Proof.Pre.lean ====
/-
  The precondition read back: its shape facts, and of each array it names that every entry is a real (of the first beta, that none is
  infinity).
-/
module

public import proofs.«01_k».proof.Proof.Consts
public import proofs.«01_k».proof.Pre_finite_inputs
public import Idealize.ShloMosaic.Lib.ReduceAll
public import Idealize.ShloMosaic.Lib.Pointwise

@[expose] public section

noncomputable section

namespace Cert.Math

open Cert.Pre_finite_inputs
open Idealize.ShloMosaic

/-- The shape facts the precondition's operations take. -/
theorem preFacts : Cert.Pre_finite_inputs.Facts where
  bcast_S_S10000x128 := by decide
  reducesTo_S10000x128_S_d0_1 := by decide
  h_S_ := by decide
  bcast_S_S128x512 := by decide
  reducesTo_S128x512_S_d0_1 := by decide
  bcast_S_S512 := by decide
  reducesTo_S512_S_d0 := by decide
  bcast_S_S512x512 := by decide
  reducesTo_S512x512_S_d0_1 := by decide
  bcast_S_S512x128 := by decide
  reducesTo_S512x128_S_d0_1 := by decide

/-- A shape of no axes has one index. -/
instance : Subsingleton S_.Idx := ⟨fun a b => funext fun i => i.elim0⟩

/-- If all entries compare less than infinity, none is infinity. -/
theorem all_lt {s : Shape} {axes : List (Fin s.rank)} (a : FVec Ideal s .f32) (hb : S_.BroadcastsInDim s (![] : Fin 0 → Fin s.rank))
    (red : s.ReducesTo axes S_) (hS : 0 < S_.numel) (j : S_.Idx)
    (e : Host.reduce IntOp.andi (cmpf .olt a (broadcastInDim s ![] hb (constant S_ .f32 0x7F800000#32))) (constantI S_ 1 1#1) red hS j = 1#1)
    (i : s.Idx) : a i < (⊤ : EReal) := by
  have h := Host.reduce_andi_all _ _ red hS j e i
  have h' : Ideal.cmp .olt (a i) (Ideal.ofBits .f32 0x7F800000#32) = 1#1 := h
  rw [inf_eq] at h'
  have hd : BitVec.ofBool (decide ((a i : EReal) < ⊤)) = 1#1 := h'
  by_contra hn
  rw [decide_eq_false hn] at hd
  exact absurd hd (by decide)

/-- If all magnitudes compare less than infinity, every entry is a real. -/
theorem all_real {s : Shape} {axes : List (Fin s.rank)} (a : FVec Ideal s .f32) (hb : S_.BroadcastsInDim s (![] : Fin 0 → Fin s.rank))
    (red : s.ReducesTo axes S_) (hS : 0 < S_.numel) (j : S_.Idx)
    (e : Host.reduce IntOp.andi (cmpf .olt (Host.absf a) (broadcastInDim s ![] hb (constant S_ .f32 0x7F800000#32))) (constantI S_ 1 1#1) red hS j
      = 1#1)
    (i : s.Idx) : a i = (((a i : EReal).toReal : ℝ) : EReal) := by
  have h : max (a i : EReal) (-(a i : EReal)) < ⊤ := all_lt (Host.absf a) hb red hS j e i
  refine (EReal.coe_toReal (fun ht => ?_) (fun hb => ?_)).symm
  · rw [ht] at h
    exact absurd h (by simp)
  · rw [hb] at h
    exact absurd h (by simp)

/-- What the precondition says of the arrays. -/
theorem pre_read [Cert.Pre_finite_inputs.Facts] (x0 : FVec Ideal S10000x128 .f32) (x1 : IVec S2x320000 32) (x2 : FVec Ideal S320000 .f32)
    (x3 : FVec Ideal S128x512 .f32) (x4 x5 x6 : FVec Ideal S512 .f32)
    (x7 : FVec Ideal S512x512 .f32) (x8 x9 x10 : FVec Ideal S512 .f32) (x11 : FVec Ideal S512x128 .f32) (x12 : FVec Ideal S128 .f32)
    (x13 : FVec Ideal S128x10 .f32) (x14 : FVec Ideal S10 .f32)
    (h : Cert.Pre_finite_inputs.fn (F := Ideal) x0 x1 x2 x3 x4 x5 x6 x7 x8 x9 x10 x11 x12 x13 x14 = fun _ => 1#1) :
    (∀ i, x0 i = (((x0 i : EReal).toReal : ℝ) : EReal)) ∧ (∀ i, x3 i = (((x3 i : EReal).toReal : ℝ) : EReal))
      ∧ (∀ i, x4 i = (((x4 i : EReal).toReal : ℝ) : EReal)) ∧ (∀ i, x5 i = (((x5 i : EReal).toReal : ℝ) : EReal))
      ∧ (∀ i, (x6 i : EReal) < ⊤) ∧ (∀ i, x7 i = (((x7 i : EReal).toReal : ℝ) : EReal))
      ∧ (∀ i, x8 i = (((x8 i : EReal).toReal : ℝ) : EReal)) ∧ (∀ i, x9 i = (((x9 i : EReal).toReal : ℝ) : EReal))
      ∧ (∀ i, x11 i = (((x11 i : EReal).toReal : ℝ) : EReal)) := by
  have j : S_.Idx := fun a => a.elim0
  have h := congrFun h j
  unfold fn fn_part1 fn_part2 at h
  obtain ⟨h, r11⟩ := IntOp.andi_eq_one.1 h
  obtain ⟨h, r9⟩ := IntOp.andi_eq_one.1 h
  obtain ⟨h, r8⟩ := IntOp.andi_eq_one.1 h
  obtain ⟨h, r7⟩ := IntOp.andi_eq_one.1 h
  obtain ⟨h, r6⟩ := IntOp.andi_eq_one.1 h
  obtain ⟨h, r5⟩ := IntOp.andi_eq_one.1 h
  obtain ⟨h, r4⟩ := IntOp.andi_eq_one.1 h
  obtain ⟨r0, r3⟩ := IntOp.andi_eq_one.1 h
  exact ⟨all_real x0 _ _ _ j r0, all_real x3 _ _ _ j r3, all_real x4 _ _ _ j r4, all_real x5 _ _ _ j r5, all_lt x6 _ _ _ j r6,
    all_real x7 _ _ _ j r7, all_real x8 _ _ _ j r8, all_real x9 _ _ _ j r9, all_real x11 _ _ _ j r11⟩

end Cert.Math

end
-- ==== Proof.Values.lean ====
/-
  The value claim: at finite inputs the kernel and the reference leave one array.
-/
module

public import proofs.«01_k».proof.Defs
public import proofs.«01_k».proof.Proof.Launch
public import proofs.«01_k».proof.Proof.Equation
public import proofs.«01_k».proof.Proof.Pre
public import proofs.«01_k».proof.Proof.Gen.ReferenceIdeal.Run

@[expose] public section

noncomputable section

namespace Cert.Proof

open Idealize.ShloMosaic Idealize.SL.Sem

/-- Under the precondition, the array the kernel leaves is the reference's of the same arguments. -/
theorem outVal_eq [Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite_inputs m) (c : Dev Cert.KernelIdeal.nD)
    (e0 : m' (c.tc.loc Cert.ReferenceIdeal.main_arg0) = m (c.tc.loc Cert.KernelIdeal.main_arg0))
    (e3 : m' (c.tc.loc Cert.ReferenceIdeal.main_arg3) = m (c.tc.loc Cert.KernelIdeal.main_arg3))
    (e4 : m' (c.tc.loc Cert.ReferenceIdeal.main_arg4) = m (c.tc.loc Cert.KernelIdeal.main_arg4))
    (e5 : m' (c.tc.loc Cert.ReferenceIdeal.main_arg5) = m (c.tc.loc Cert.KernelIdeal.main_arg5))
    (e6 : m' (c.tc.loc Cert.ReferenceIdeal.main_arg6) = m (c.tc.loc Cert.KernelIdeal.main_arg6))
    (e7 : m' (c.tc.loc Cert.ReferenceIdeal.main_arg7) = m (c.tc.loc Cert.KernelIdeal.main_arg7))
    (e8 : m' (c.tc.loc Cert.ReferenceIdeal.main_arg8) = m (c.tc.loc Cert.KernelIdeal.main_arg8))
    (e9 : m' (c.tc.loc Cert.ReferenceIdeal.main_arg9) = m (c.tc.loc Cert.KernelIdeal.main_arg9))
    (e10 : m' (c.tc.loc Cert.ReferenceIdeal.main_arg10) = m (c.tc.loc Cert.KernelIdeal.main_arg10))
    (e11 : m' (c.tc.loc Cert.ReferenceIdeal.main_arg11) = m (c.tc.loc Cert.KernelIdeal.main_arg11))
    (e12 : m' (c.tc.loc Cert.ReferenceIdeal.main_arg12) = m (c.tc.loc Cert.KernelIdeal.main_arg12))
    (e13 : m' (c.tc.loc Cert.ReferenceIdeal.main_arg13) = m (c.tc.loc Cert.KernelIdeal.main_arg13))
    (e14 : m' (c.tc.loc Cert.ReferenceIdeal.main_arg14) = m (c.tc.loc Cert.KernelIdeal.main_arg14)) :
    Cert.ReferenceIdeal.Value.res_main_v53 m' c = Cert.KernelIdeal.Hand.outVal m c := by
  obtain ⟨r0, r3, r4, r5, r6, r7, r8, r9, r11⟩ := Cert.Math.pre_read _ _ _ _ _ _ _ _ _ _ _ _ _ _ _ (hpre c)
  rw [Cert.ReferenceIdeal.Read.val_main_v53_eq, e0, e3, e4, e5, e6, e7, e8, e9, e10, e11, e12, e13, e14]
  exact (Cert.Math.result_eq _ _ _ _ _ _ _ _ _ _ _ _ _ _ _ _ _ _ _ _ _ (fun i f => r0 (ix2 i f)) (fun f l => r3 (ix2 f l))
    (fun l => r4 (ix1 l)) (fun l => r5 (ix1 l)) (fun l => (r6 (ix1 l)).ne) (fun l j => r7 (ix2 l j)) (fun l => r8 (ix1 l))
    (fun l => r9 (ix1 l)) (fun q l => r11 (ix2 q l))).symm

/-- The value claim. -/
theorem algebraic [Cert.Pre_finite_inputs.Facts] : Cert.algebraic_KernelIdeal_ReferenceIdeal_pre_finite_inputs := fun m g m' g' hpre heq => by
  refine ⟨fun c => Cert.KernelIdeal.Hand.outVal m c,
    (θ_run Cert.KernelIdeal.defs _ _).mono (fun _ h => h.1) (Cert.KernelIdeal.Hand.run_main (F := Ideal) m g),
    (θ_run Cert.ReferenceIdeal.defs _ _).mono (fun r h c => ⟨?_, (h c).2⟩) (Cert.ReferenceIdeal.Value.run (F := Ideal) m' g')⟩
  obtain ⟨e0, _, _, e3, e4, e5, e6, e7, e8, e9, e10, e11, e12, e13, e14⟩ := heq c
  exact (h c).1.trans (outVal_eq m m' hpre c e0 e3 e4 e5 e6 e7 e8 e9 e10 e11 e12 e13 e14)

end Cert.Proof

end
-- ==== Proof.lean ====
/-
  The claims put together: the three frames and the named constant (Proof/Frames.lean), and the value claim (Proof/Values.lean).
-/
module

public import proofs.«01_k».proof.Defs
public import proofs.«01_k».proof.Proof.Frames
public import proofs.«01_k».proof.Proof.Values

@[expose] public section

noncomputable section

namespace Cert.Proof

open Idealize.ShloMosaic Idealize.SL.Sem

/-- Everything the certificate claims. A frame under the precondition is the frame without it. -/
theorem claim : Cert.Claim :=
  haveI := Cert.Math.preFacts
  ⟨Cert.Kernel.Gen.facts, Cert.KernelIdeal.Gen.facts, Cert.ReferenceIdeal.Gen.facts, Cert.Math.preFacts, frame_kernel, frame_kernelIdeal,
    fun m ρ _ => frame_kernelIdeal m ρ trivial, frame_reference, fun m ρ _ => frame_reference m ρ trivial, preserves, algebraic⟩

end Cert.Proof

end
